-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S32x3x512x512 : Shape := ⟨4, ![32, 3, 512, 512]⟩
abbrev S1 : Shape := ⟨1, ![1]⟩
abbrev S32x1x512x512 : Shape := ⟨4, ![32, 1, 512, 512]⟩
abbrev S32x512x512 : Shape := ⟨3, ![32, 512, 512]⟩
abbrev S32x2x512x512 : Shape := ⟨4, ![32, 2, 512, 512]⟩
abbrev S_ : Shape := ⟨0, ![]⟩

class Facts : Prop where
  slices_S32x3x512x512_S32x1x512x512_0_0_0_0 : S32x3x512x512.Slices ![0, 0, 0, 0] S32x1x512x512
  shapeCasts_S32x1x512x512_S32x512x512 : S32x1x512x512.ShapeCasts S32x512x512
  slices_S32x3x512x512_S32x2x512x512_0_1_0_0 : S32x3x512x512.Slices ![0, 1, 0, 0] S32x2x512x512
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S32x2x512x512 : S_.BroadcastsInDim S32x2x512x512 (![] : Fin 0 → Fin S32x2x512x512.rank)
  reducesTo_S32x2x512x512_S_d0_1_2_3 : S32x2x512x512.ReducesTo [0, 1, 2, 3] S_

variable [Facts]

def fn {F : FTy → Type} [FloatOps F] (main_arg0 : FVec F S32x3x512x512 .f32) (main_arg1 : FVec F S1 .f32) (main_arg2 : FVec F S1 .f32) (main_arg3 : FVec F S1 .f32) : IVec S_ 1 :=
  let main_v0 : FVec F S32x1x512x512 .f32 := (extractStridedSlice S32x1x512x512 ![0, 0, 0, 0] · slices_S32x3x512x512_S32x1x512x512_0_0_0_0) main_arg0
  let main_v1 : FVec F S32x512x512 .f32 := shapeCast S32x512x512 main_v0 shapeCasts_S32x1x512x512_S32x512x512
  let main_v2 : FVec F S32x2x512x512 .f32 := (extractStridedSlice S32x2x512x512 ![0, 1, 0, 0] · slices_S32x3x512x512_S32x2x512x512_0_1_0_0) main_arg0
  let main_cst : FVec F S_ .f32 := constant S_ .f32 0x00000000#32
  let main_v3 : FVec F S32x512x512 .f32 := broadcastInDim S32x512x512 ![] bcast_S_S32x512x512 main_cst
  let main_v4 : IVec S32x512x512 1 := cmpf .oge main_v1 main_v3
  let main_cst_0 : FVec F S_ .f32 := constant S_ .f32 0x42C80000#32
  let main_v5 : FVec F S32x512x512 .f32 := broadcastInDim S32x512x512 ![] bcast_S_S32x512x512 main_cst_0
  let main_v6 : IVec S32x512x512 1 := cmpf .ole main_v1 main_v5
  let main_v7 : IVec S32x512x512 1 := andi main_v4 main_v6
  let main_c : IVec S_ 1 := constantI S_ 1 1#1
  let main_v8 : IVec S_ 1 := (fun x v => Host.reduce IntOp.andi x v reducesTo_S32x512x512_S_d0_1_2 h_S_) main_v7 main_c
  let main_cst_1 : FVec F S_ .f32 := constant S_ .f32 0xC3000000#32
  let main_v9 : FVec F S32x2x512x512 .f32 := broadcastInDim S32x2x512x512 ![] bcast_S_S32x2x512x512 main_cst_1
  let main_v10 : IVec S32x2x512x512 1 := cmpf .oge main_v2 main_v9
  let main_cst_2 : FVec F S_ .f32 := constant S_ .f32 0x42FE0000#32
  let main_v11 : FVec F S32x2x512x512 .f32 := broadcastInDim S32x2x512x512 ![] bcast_S_S32x2x512x512 main_cst_2
  let main_v12 : IVec S32x2x512x512 1 := cmpf .ole main_v2 main_v11
  let main_v13 : IVec S32x2x512x512 1 := andi main_v10 main_v12
  let main_c_3 : IVec S_ 1 := constantI S_ 1 1#1
  let main_v14 : IVec S_ 1 := (fun x v => Host.reduce IntOp.andi x v reducesTo_S32x2x512x512_S_d0_1_2_3 h_S_) main_v13 main_c_3
  let main_v15 : IVec S_ 1 := andi main_v8 main_v14
  main_v15
-- ==== Kernel.lean ====
abbrev S32x3x512x512 : Shape := ⟨4, ![32, 3, 512, 512]⟩
abbrev S1 : Shape := ⟨1, ![1]⟩
abbrev S3 : Shape := ⟨1, ![3]⟩
abbrev S32x16 : Shape := ⟨2, ![32, 16]⟩
abbrev S64x512 : Shape := ⟨2, ![64, 512]⟩
abbrev S6144 : Shape := ⟨1, ![6144]⟩
abbrev S16 : Shape := ⟨1, ![16]⟩
abbrev S_ : Shape := ⟨0, ![]⟩
abbrev S1x1x64x512 : Shape := ⟨4, ![1, 1, 64, 512]⟩
abbrev S1x16 : Shape := ⟨2, ![1, 16]⟩
abbrev S32x3 : Shape := ⟨2, ![32, 3]⟩
abbrev S1x3 : Shape := ⟨2, ![1, 3]⟩
abbrev S1x1x512x512 : Shape := ⟨4, ![1, 1, 512, 512]⟩
abbrev S1x1 : Shape := ⟨2, ![1, 1]⟩

abbrev nBuf : Table → Nat
  | .hbm => 19
  | .local .tc .vmem => 4
  | .local .tc .smem => 2
  | .local .scVector .vmem => 3
  | _ => 0

abbrev bufTy : (tb : Table) → Fin (nBuf tb) → BufTy
  | .hbm, ⟨0, _⟩ => ⟨S32x3x512x512, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S3, .f32⟩
  | .hbm, ⟨5, _⟩ => ⟨S3, .f32⟩
  | .hbm, ⟨6, _⟩ => ⟨S32x16, .f32⟩
  | .hbm, ⟨7, _⟩ => ⟨S32x3, .f32⟩
  | .hbm, ⟨8, _⟩ => ⟨S3, .f32⟩
  | .hbm, ⟨9, _⟩ => ⟨S1x3, .f32⟩
  | .hbm, ⟨10, _⟩ => ⟨S1x3, .f32⟩
  | .hbm, ⟨11, _⟩ => ⟨S32x3, .f32⟩
  | .hbm, ⟨12, _⟩ => ⟨S32x3, .f32⟩
  | .hbm, ⟨13, _⟩ => ⟨S32x3, .f32⟩
  | .hbm, ⟨14, _⟩ => ⟨S32x3, .f32⟩
  | .hbm, ⟨15, _⟩ => ⟨S3, .f32⟩
  | .hbm, ⟨16, _⟩ => ⟨S1x3, .f32⟩
  | .hbm, ⟨17, _⟩ => ⟨S32x3, .f32⟩
  | .hbm, ⟨18, _⟩ => ⟨S32x3x512x512, .f32⟩
  | .local .tc .vmem, ⟨0, _⟩ => ⟨S1x1x512x512, .f32⟩
  | .local .tc .vmem, ⟨1, _⟩ => ⟨S1x1x512x512, .f32⟩
  | .local .tc .vmem, ⟨2, _⟩ => ⟨S1x1x512x512, .f32⟩
  | .local .tc .vmem, ⟨3, _⟩ => ⟨S1x1x512x512, .f32⟩
  | .local .tc .smem, ⟨0, _⟩ => ⟨S32x3, .f32⟩
  | .local .tc .smem, ⟨1, _⟩ => ⟨S32x3, .f32⟩
  | .local .scVector .vmem, ⟨0, _⟩ => ⟨S64x512, .f32⟩
  | .local .scVector .vmem, ⟨1, _⟩ => ⟨S6144, .i32⟩
  | .local .scVector .vmem, ⟨2, _⟩ => ⟨S16, .f32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_arg0_scv : Ref sig .scVector := ⟨.hbm, 0, rfl⟩
abbrev main_v0_scv : Ref sig .scVector := ⟨.hbm, 6, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg0_0 : Ref sig .tc := ⟨.smem, 0, rfl⟩
abbrev cc1_stg1_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c384_i32 : BitVec 32 := 384#32
  let v5 : BitVec 32 := Scalar.addi c0_i32_1 c384_i32
  let c1_i32_2 : BitVec 32 := 1#32
  ⟨c0_i32_1, v5, c1_i32_2⟩
def k0_off1 (k0_t1 : Fin k0_t1_loop.trips) : Fin 1 → Nat :=
  let c0_i32_1 : BitVec 32 := 0#32
  let c1_i32_2 : BitVec 32 := 1#32
  let arg7 : BitVec 32 := Scf.iv c0_i32_1 c1_i32_2 k0_t1
  let c16_i32 : BitVec 32 := 16#32
  let v54 : BitVec 32 := Scalar.muli arg7 c16_i32
  let v55 : Index := Scalar.indexCast v54
  ![v55.toNat]
@[reducible] def k0_t2_loop : Scf.Loop 32 :=
  let c0_i32_6 : BitVec 32 := 0#32
  let c8_i32 : BitVec 32 := 8#32
  let v7 : BitVec 32 := Scalar.addi c0_i32_6 c8_i32
  let c1_i32_7 : BitVec 32 := 1#32
  ⟨c0_i32_6, v7, c1_i32_7⟩
def k0_off2 (i : grid0.Coords) (k0_t2 : Fin k0_t2_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_58 : BitVec 32 := 0#32
  let c0_i32_6 : BitVec 32 := 0#32
  let c1_i32_7 : BitVec 32 := 1#32
  let arg7 : BitVec 32 := Scf.iv c0_i32_6 c1_i32_7 k0_t2
  let c64_i32 : BitVec 32 := 64#32
  let v54 : BitVec 32 := Scalar.muli arg7 c64_i32
  let c0_i32_64_r0 : BitVec 32 := 0#32
  ![v1.toNat, 0, v54.toNat, 0]
@[reducible] def k0_t3_loop : Scf.Loop 32 :=
  let c0_i32_60 : BitVec 32 := 0#32
  let c2048_i32 : BitVec 32 := 2048#32
  let v55 : BitVec 32 := Scalar.addi c0_i32_60 c2048_i32
  let c1_i32_61 : BitVec 32 := 1#32
  ⟨c0_i32_60, v55, c1_i32_61⟩
def k0_off3 (k0_t3 : Fin k0_t3_loop.trips) : Fin 2 → Nat :=
  let c0_i32_60 : BitVec 32 := 0#32
  let c1_i32_61 : BitVec 32 := 1#32
  let arg9 : BitVec 32 := Scf.iv c0_i32_60 c1_i32_61 k0_t3
  let c5_i32 : BitVec 32 := 5#32
  let v57 : BitVec 32 := Scalar.shrsi arg9 c5_i32
  let v60 : Index := Scalar.indexCast v57
  let c31_i32 : BitVec 32 := 31#32
  let v58 : BitVec 32 := Scalar.andi arg9 c31_i32
  let c16_i32 : BitVec 32 := 16#32
  let v59 : BitVec 32 := Scalar.muli v58 c16_i32
  let v61 : Index := Scalar.indexCast v59
  ![v60.toNat, v61.toNat]

def k0_chk1 (v76 : IVec S16 32) : Prop :=
  (∀ a x, ((![v76] : Fin 1 → IVec S16 32) a x).toNat < S6144.size a)
theorem k0_idx1_inb : ∀ (v76 : IVec S16 32) (k0_hw1 : k0_chk1 v76), ∀ a x, ((![v76] : Fin 1 → IVec S16 32) a x).toNat < S6144.size a := fun v76 k0_hw1 => k0_hw1
@[reducible] def k0_t4_loop : Scf.Loop 32 :=
  let c0_i32_12 : BitVec 32 := 0#32
  let c8_i32_13 : BitVec 32 := 8#32
  let v9 : BitVec 32 := Scalar.addi c0_i32_12 c8_i32_13
  let c1_i32_14 : BitVec 32 := 1#32
  ⟨c0_i32_12, v9, c1_i32_14⟩
def k0_off4 (i : grid0.Coords) (k0_t4 : Fin k0_t4_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_58 : BitVec 32 := 1#32
  let c0_i32_12 : BitVec 32 := 0#32
  let c1_i32_14 : BitVec 32 := 1#32
  let arg7 : BitVec 32 := Scf.iv c0_i32_12 c1_i32_14 k0_t4
  let c64_i32 : BitVec 32 := 64#32
  let v54 : BitVec 32 := Scalar.muli arg7 c64_i32
  let c0_i32_64_r1 : BitVec 32 := 0#32
  ![v1.toNat, 1, v54.toNat, 0]
@[reducible] def k0_t5_loop : Scf.Loop 32 :=
  let c0_i32_60 : BitVec 32 := 0#32
  let c2048_i32 : BitVec 32 := 2048#32
  let v55 : BitVec 32 := Scalar.addi c0_i32_60 c2048_i32
  let c1_i32_61 : BitVec 32 := 1#32
  ⟨c0_i32_60, v55, c1_i32_61⟩
def k0_off5 (k0_t5 : Fin k0_t5_loop.trips) : Fin 2 → Nat :=
  let c0_i32_60 : BitVec 32 := 0#32
  let c1_i32_61 : BitVec 32 := 1#32
  let arg9 : BitVec 32 := Scf.iv c0_i32_60 c1_i32_61 k0_t5
  let c5_i32 : BitVec 32 := 5#32
  let v57 : BitVec 32 := Scalar.shrsi arg9 c5_i32
  let v60 : Index := Scalar.indexCast v57
  let c31_i32 : BitVec 32 := 31#32
  let v58 : BitVec 32 := Scalar.andi arg9 c31_i32
  let c16_i32 : BitVec 32 := 16#32
  let v59 : BitVec 32 := Scalar.muli v58 c16_i32
  let v61 : Index := Scalar.indexCast v59
  ![v60.toNat, v61.toNat]

def k0_chk2 (v76 : IVec S16 32) : Prop :=
  (∀ a x, ((![v76] : Fin 1 → IVec S16 32) a x).toNat < S6144.size a)
theorem k0_idx2_inb : ∀ (v76 : IVec S16 32) (k0_hw2 : k0_chk2 v76), ∀ a x, ((![v76] : Fin 1 → IVec S16 32) a x).toNat < S6144.size a := fun v76 k0_hw2 => k0_hw2
@[reducible] def k0_t6_loop : Scf.Loop 32 :=
  let c0_i32_19 : BitVec 32 := 0#32
  let c8_i32_20 : BitVec 32 := 8#32
  let v11 : BitVec 32 := Scalar.addi c0_i32_19 c8_i32_20
  let c1_i32_21 : BitVec 32 := 1#32
  ⟨c0_i32_19, v11, c1_i32_21⟩
def k0_off6 (i : grid0.Coords) (k0_t6 : Fin k0_t6_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_58 : BitVec 32 := 2#32
  let c0_i32_19 : BitVec 32 := 0#32
  let c1_i32_21 : BitVec 32 := 1#32
  let arg7 : BitVec 32 := Scf.iv c0_i32_19 c1_i32_21 k0_t6
  let c64_i32 : BitVec 32 := 64#32
  let v54 : BitVec 32 := Scalar.muli arg7 c64_i32
  let c0_i32_64_r2 : BitVec 32 := 0#32
  ![v1.toNat, 2, v54.toNat, 0]
@[reducible] def k0_t7_loop : Scf.Loop 32 :=
  let c0_i32_60 : BitVec 32 := 0#32
  let c2048_i32 : BitVec 32 := 2048#32
  let v55 : BitVec 32 := Scalar.addi c0_i32_60 c2048_i32
  let c1_i32_61 : BitVec 32 := 1#32
  ⟨c0_i32_60, v55, c1_i32_61⟩
def k0_off7 (k0_t7 : Fin k0_t7_loop.trips) : Fin 2 → Nat :=
  let c0_i32_60 : BitVec 32 := 0#32
  let c1_i32_61 : BitVec 32 := 1#32
  let arg9 : BitVec 32 := Scf.iv c0_i32_60 c1_i32_61 k0_t7
  let c5_i32 : BitVec 32 := 5#32
  let v57 : BitVec 32 := Scalar.shrsi arg9 c5_i32
  let v60 : Index := Scalar.indexCast v57
  let c31_i32 : BitVec 32 := 31#32
  let v58 : BitVec 32 := Scalar.andi arg9 c31_i32
  let c16_i32 : BitVec 32 := 16#32
  let v59 : BitVec 32 := Scalar.muli v58 c16_i32
  let v61 : Index := Scalar.indexCast v59
  ![v60.toNat, v61.toNat]

def k0_chk3 (v76 : IVec S16 32) : Prop :=
  (∀ a x, ((![v76] : Fin 1 → IVec S16 32) a x).toNat < S6144.size a)
theorem k0_idx3_inb : ∀ (v76 : IVec S16 32) (k0_hw3 : k0_chk3 v76), ∀ a x, ((![v76] : Fin 1 → IVec S16 32) a x).toNat < S6144.size a := fun v76 k0_hw3 => k0_hw3
@[reducible] def k0_t8_loop : Scf.Loop 32 :=
  let c0_i32_26 : BitVec 32 := 0#32
  let c100_i32 : BitVec 32 := 100#32
  let v13 : BitVec 32 := Scalar.addi c0_i32_26 c100_i32
  let c1_i32_27 : BitVec 32 := 1#32
  ⟨c0_i32_26, v13, c1_i32_27⟩
def k0_off8 (k0_t8 : Fin k0_t8_loop.trips) : Fin 1 → Nat :=
  let c0_i32_58 : BitVec 32 := 0#32
  let c0_i32_26 : BitVec 32 := 0#32
  let c1_i32_27 : BitVec 32 := 1#32
  let arg7 : BitVec 32 := Scf.iv c0_i32_26 c1_i32_27 k0_t8
  let c16_i32 : BitVec 32 := 16#32
  let v54 : BitVec 32 := Scalar.muli arg7 c16_i32
  let v55 : BitVec 32 := Scalar.addi c0_i32_58 v54
  let v56 : Index := Scalar.indexCast v55
  ![v56.toNat]
@[reducible] def k0_t9_loop : Scf.Loop 32 :=
  let c0_i32_33 : BitVec 32 := 0#32
  let c100_i32_34 : BitVec 32 := 100#32
  let v15 : BitVec 32 := Scalar.addi c0_i32_33 c100_i32_34
  let c1_i32_35 : BitVec 32 := 1#32
  ⟨c0_i32_33, v15, c1_i32_35⟩
def k0_off9 (k0_t9 : Fin k0_t9_loop.trips) : Fin 1 → Nat :=
  let c2048_i32 : BitVec 32 := 2048#32
  let c0_i32_33 : BitVec 32 := 0#32
  let c1_i32_35 : BitVec 32 := 1#32
  let arg7 : BitVec 32 := Scf.iv c0_i32_33 c1_i32_35 k0_t9
  let c16_i32 : BitVec 32 := 16#32
  let v54 : BitVec 32 := Scalar.muli arg7 c16_i32
  let v55 : BitVec 32 := Scalar.addi c2048_i32 v54
  let v56 : Index := Scalar.indexCast v55
  ![v56.toNat]
@[reducible] def k0_t10_loop : Scf.Loop 32 :=
  let c0_i32_41 : BitVec 32 := 0#32
  let c100_i32_42 : BitVec 32 := 100#32
  let v17 : BitVec 32 := Scalar.addi c0_i32_41 c100_i32_42
  let c1_i32_43 : BitVec 32 := 1#32
  ⟨c0_i32_41, v17, c1_i32_43⟩
def k0_off10 (k0_t10 : Fin k0_t10_loop.trips) : Fin 1 → Nat :=
  let c4096_i32 : BitVec 32 := 4096#32
  let c0_i32_41 : BitVec 32 := 0#32
  let c1_i32_43 : BitVec 32 := 1#32
  let arg7 : BitVec 32 := Scf.iv c0_i32_41 c1_i32_43 k0_t10
  let c16_i32 : BitVec 32 := 16#32
  let v54 : BitVec 32 := Scalar.muli arg7 c16_i32
  let v55 : BitVec 32 := Scalar.addi c4096_i32 v54
  let v56 : Index := Scalar.indexCast v55
  ![v56.toNat]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_58_r3 : BitVec 32 := 0#32
  ![v1.toNat, 0]
abbrev grid1 : Pipeline.Grid := ⟨2, ![32, 3], ![false, false]⟩

def k1_off1 (i : grid1.Coords) : Fin 2 → Nat :=
  let arg0 : BitVec 32 := BitVec.ofNat 32 (i 0).val
  let v1 : Index := Scalar.indexCast arg0
  let arg1 : BitVec 32 := BitVec.ofNat 32 (i 1).val
  let v2 : Index := Scalar.indexCast arg1
  ![v1.toNat, v2.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 1 → Memref sig .tc .smem S32x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S32x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S1 : Shape := ⟨1, ![1]⟩
abbrev S32x1x512x512 : Shape := ⟨4, ![32, 1, 512, 512]⟩
abbrev S32x512x512 : Shape := ⟨3, ![32, 512, 512]⟩
abbrev S32x262144 : Shape := ⟨2, ![32, 262144]⟩
abbrev S_ : Shape := ⟨0, ![]⟩
abbrev S262144 : Shape := ⟨1, ![262144]⟩
abbrev S32x262144x1 : Shape := ⟨3, ![32, 262144, 1]⟩
abbrev S101 : Shape := ⟨1, ![101]⟩
abbrev S1x101 : Shape := ⟨2, ![1, 101]⟩
abbrev S1x1x101 : Shape := ⟨3, ![1, 1, 101]⟩
abbrev S32x262144x101 : Shape := ⟨3, ![32, 262144, 101]⟩
abbrev S32x101 : Shape := ⟨2, ![32, 101]⟩
abbrev S32x100 : Shape := ⟨2, ![32, 100]⟩
abbrev S32x2 : Shape := ⟨2, ![32, 2]⟩
abbrev S32x1 : Shape := ⟨2, ![32, 1]⟩
abbrev S32 : Shape := ⟨1, ![32]⟩
abbrev S32x1x1x1 : Shape := ⟨4, ![32, 1, 1, 1]⟩
abbrev S1x1x1x1 : Shape := ⟨4, ![1, 1, 1, 1]⟩

abbrev nBuf : Space → Nat
  | .hbm => 217
  | .vmem => 0
  | .smem => 0
  | _ => 0

abbrev hbmTy0_0 (i : Nat) : BufTy := match i % 128 with
  | 0 => ⟨S32x3x512x512, .f32⟩
  | 1 => ⟨S1, .f32⟩
  | 2 => ⟨S1, .f32⟩
  | 3 => ⟨S1, .f32⟩
  | 4 => ⟨S32x1x512x512, .f32⟩
  | 5 => ⟨S32x512x512, .f32⟩
  | 6 => ⟨S32x1x512x512, .f32⟩
  | 7 => ⟨S32x512x512, .f32⟩
  | 8 => ⟨S32x1x512x512, .f32⟩
  | 9 => ⟨S32x512x512, .f32⟩
  | 10 => ⟨S32x262144, .f32⟩
  | 11 => ⟨S_, .f32⟩
  | 12 => ⟨S32x262144, .f32⟩
  | 13 => ⟨S32x262144, .f32⟩
  | 14 => ⟨S_, .f32⟩
  | 15 => ⟨S32x262144, .f32⟩
  | 16 => ⟨S32x262144, .f32⟩
  | 17 => ⟨S32x262144, .f32⟩
  | 18 => ⟨S32x262144, .i32⟩
  | 19 => ⟨S_, .i32⟩
  | 20 => ⟨S_, .i32⟩
  | 21 => ⟨S_, .i32⟩
  | 22 => ⟨S32x262144, .i32⟩
  | 23 => ⟨S32x262144, .i32⟩
  | 24 => ⟨S_, .i32⟩
  | 25 => ⟨S32x262144, .i32⟩
  | 26 => ⟨S32x262144, .i32⟩
  | 27 => ⟨S_, .f32⟩
  | 28 => ⟨S32x262144, .f32⟩
  | 29 => ⟨S32x262144, .i1⟩
  | 30 => ⟨S_, .f32⟩
  | 31 => ⟨S32x262144, .f32⟩
  | 32 => ⟨S32x262144, .i1⟩
  | 33 => ⟨S32x262144, .i1⟩
  | 34 => ⟨S_, .i32⟩
  | 35 => ⟨S_, .i32⟩
  | 36 => ⟨S262144, .i32⟩
  | 37 => ⟨S32x262144, .i32⟩
  | 38 => ⟨S32x262144, .i32⟩
  | 39 => ⟨S32x262144x1, .i32⟩
  | 40 => ⟨S101, .i32⟩
  | 41 => ⟨S1x101, .i32⟩
  | 42 => ⟨S1x1x101, .i32⟩
  | 43 => ⟨S32x262144x101, .i32⟩
  | 44 => ⟨S32x262144x101, .i32⟩
  | 45 => ⟨S32x262144x101, .i1⟩
  | 46 => ⟨S32x262144x101, .i32⟩
  | 47 => ⟨S_, .i32⟩
  | 48 => ⟨S32x101, .i32⟩
  | 49 => ⟨S32x100, .i32⟩
  | 50 => ⟨S32x100, .f32⟩
  | 51 => ⟨S32x2, .f32⟩
  | 52 => ⟨S32x2, .i32⟩
  | 53 => ⟨S32x1, .i32⟩
  | 54 => ⟨S32, .i32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S32x262144, .f32⟩
  | 66 => ⟨S_, .f32⟩
  | 67 => ⟨S32x262144, .f32⟩
  | 68 => ⟨S32x262144, .f32⟩
  | 69 => ⟨S_, .f32⟩
  | 70 => ⟨S32x262144, .f32⟩
  | 71 => ⟨S32x262144, .f32⟩
  | 72 => ⟨S32x262144, .f32⟩
  | 73 => ⟨S32x262144, .i32⟩
  | 74 => ⟨S_, .i32⟩
  | 75 => ⟨S_, .i32⟩
  | 76 => ⟨S_, .i32⟩
  | 77 => ⟨S32x262144, .i32⟩
  | 78 => ⟨S32x262144, .i32⟩
  | 79 => ⟨S_, .i32⟩
  | 80 => ⟨S32x262144, .i32⟩
  | 81 => ⟨S32x262144, .i32⟩
  | 82 => ⟨S_, .f32⟩
  | 83 => ⟨S32x262144, .f32⟩
  | 84 => ⟨S32x262144, .i1⟩
  | 85 => ⟨S_, .f32⟩
  | 86 => ⟨S32x262144, .f32⟩
  | 87 => ⟨S32x262144, .i1⟩
  | 88 => ⟨S32x262144, .i1⟩
  | 89 => ⟨S_, .i32⟩
  | 90 => ⟨S_, .i32⟩
  | 91 => ⟨S262144, .i32⟩
  | 92 => ⟨S32x262144, .i32⟩
  | 93 => ⟨S32x262144, .i32⟩
  | 94 => ⟨S32x262144x1, .i32⟩
  | 95 => ⟨S101, .i32⟩
  | 96 => ⟨S1x101, .i32⟩
  | 97 => ⟨S1x1x101, .i32⟩
  | 98 => ⟨S32x262144x101, .i32⟩
  | 99 => ⟨S32x262144x101, .i32⟩
  | 100 => ⟨S32x262144x101, .i1⟩
  | 101 => ⟨S32x262144x101, .i32⟩
  | 102 => ⟨S_, .i32⟩
  | 103 => ⟨S32x101, .i32⟩
  | 104 => ⟨S32x100, .i32⟩
  | 105 => ⟨S32x100, .f32⟩
  | 106 => ⟨S32x100, .i32⟩
  | 107 => ⟨S_, .f32⟩
  | 108 => ⟨S_, .i32⟩
  | 109 => ⟨S32, .f32⟩
  | 110 => ⟨S32, .i32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S32x262144, .f32⟩
  | 122 => ⟨S_, .f32⟩
  | 123 => ⟨S32x262144, .f32⟩
  | 124 => ⟨S32x262144, .f32⟩
  | 125 => ⟨S_, .f32⟩
  | 126 => ⟨S32x262144, .f32⟩
  | 127 => ⟨S32x262144, .f32⟩
  | _ => ⟨S32x3x512x512, .f32⟩

abbrev hbmTy0_1 (i : Nat) : BufTy := match i % 128 with
  | 0 => ⟨S32x262144, .f32⟩
  | 1 => ⟨S32x262144, .i32⟩
  | 2 => ⟨S_, .i32⟩
  | 3 => ⟨S_, .i32⟩
  | 4 => ⟨S_, .i32⟩
  | 5 => ⟨S32x262144, .i32⟩
  | 6 => ⟨S32x262144, .i32⟩
  | 7 => ⟨S_, .i32⟩
  | 8 => ⟨S32x262144, .i32⟩
  | 9 => ⟨S32x262144, .i32⟩
  | 10 => ⟨S_, .f32⟩
  | 11 => ⟨S32x262144, .f32⟩
  | 12 => ⟨S32x262144, .i1⟩
  | 13 => ⟨S_, .f32⟩
  | 14 => ⟨S32x262144, .f32⟩
  | 15 => ⟨S32x262144, .i1⟩
  | 16 => ⟨S32x262144, .i1⟩
  | 17 => ⟨S_, .i32⟩
  | 18 => ⟨S_, .i32⟩
  | 19 => ⟨S262144, .i32⟩
  | 20 => ⟨S32x262144, .i32⟩
  | 21 => ⟨S32x262144, .i32⟩
  | 22 => ⟨S32x262144x1, .i32⟩
  | 23 => ⟨S101, .i32⟩
  | 24 => ⟨S1x101, .i32⟩
  | 25 => ⟨S1x1x101, .i32⟩
  | 26 => ⟨S32x262144x101, .i32⟩
  | 27 => ⟨S32x262144x101, .i32⟩
  | 28 => ⟨S32x262144x101, .i1⟩
  | 29 => ⟨S32x262144x101, .i32⟩
  | 30 => ⟨S_, .i32⟩
  | 31 => ⟨S32x101, .i32⟩
  | 32 => ⟨S32x100, .i32⟩
  | 33 => ⟨S32x100, .f32⟩
  | 34 => ⟨S32x100, .i32⟩
  | 35 => ⟨S_, .f32⟩
  | 36 => ⟨S_, .i32⟩
  | 37 => ⟨S32, .f32⟩
  | 38 => ⟨S32, .i32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32x1x1x1, .f32⟩
  | 50 => ⟨S32x1x1x1, .f32⟩
  | 51 => ⟨S32x1x1x1, .f32⟩
  | 52 => ⟨S32x1x512x512, .f32⟩
  | 53 => ⟨S1x1x1x1, .f32⟩
  | 54 => ⟨S32x1x512x512, .f32⟩
  | 55 => ⟨S32x1x512x512, .f32⟩
  | 56 => ⟨S32x1x512x512, .f32⟩
  | 57 => ⟨S32x1x512x512, .f32⟩
  | 58 => ⟨S_, .f32⟩
  | 59 => ⟨S32x1x512x512, .f32⟩
  | 60 => ⟨S32x1x512x512, .f32⟩
  | 61 => ⟨S_, .f32⟩
  | 62 => ⟨S32x1x512x512, .f32⟩
  | 63 => ⟨S32x1x512x512, .f32⟩
  | 64 => ⟨S32x1x512x512, .f32⟩
  | 65 => ⟨S1x1x1x1, .f32⟩
  | 66 => ⟨S32x1x512x512, .f32⟩
  | 67 => ⟨S32x1x512x512, .f32⟩
  | 68 => ⟨S32x1x512x512, .f32⟩
  | 69 => ⟨S32x1x512x512, .f32⟩
  | 70 => ⟨S_, .f32⟩
  | 71 => ⟨S32x1x512x512, .f32⟩
  | 72 => ⟨S32x1x512x512, .f32⟩
  | 73 => ⟨S_, .f32⟩
  | 74 => ⟨S32x1x512x512, .f32⟩
  | 75 => ⟨S32x1x512x512, .f32⟩
  | 76 => ⟨S32x1x512x512, .f32⟩
  | 77 => ⟨S1x1x1x1, .f32⟩
  | 78 => ⟨S32x1x512x512, .f32⟩
  | 79 => ⟨S32x1x512x512, .f32⟩
  | 80 => ⟨S32x1x512x512, .f32⟩
  | 81 => ⟨S32x1x512x512, .f32⟩
  | 82 => ⟨S_, .f32⟩
  | 83 => ⟨S32x1x512x512, .f32⟩
  | 84 => ⟨S32x1x512x512, .f32⟩
  | 85 => ⟨S_, .f32⟩
  | 86 => ⟨S32x1x512x512, .f32⟩
  | 87 => ⟨S32x1x512x512, .f32⟩
  | 88 => ⟨S32x3x512x512, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_values : Ref sig .tc := ⟨.hbm, 51, rfl⟩
abbrev main_indices : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_c_12 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v47 : Ref sig .tc := ⟨.hbm, 81, rfl⟩
abbrev main_cst_13 : Ref sig .tc := ⟨.hbm, 82, rfl⟩
abbrev main_v48 : Ref sig .tc := ⟨.hbm, 83, rfl⟩
abbrev main_v49 : Ref sig .tc := ⟨.hbm, 84, rfl⟩
abbrev main_cst_14 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_15 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_16 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call4_v0 : Ref sig .tc := ⟨.hbm, 106, rfl⟩
abbrev main_call4_cst : Ref sig .tc := ⟨.hbm, 107, rfl⟩
abbrev main_call4_c : Ref sig .tc := ⟨.hbm, 108, rfl⟩
abbrev main_call4_v1_0 : Ref sig .tc := ⟨.hbm, 109, rfl⟩
abbrev main_v65 : Ref sig .tc := ⟨.hbm, 110, rfl⟩
abbrev main_v66 : Ref sig .tc := ⟨.hbm, 111, rfl⟩
abbrev main_cst_17 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_cst_19 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_20 : Ref sig .tc := ⟨.hbm, 122, rfl⟩
abbrev main_v74 : Ref sig .tc := ⟨.hbm, 123, rfl⟩
abbrev main_v75 : Ref sig .tc := ⟨.hbm, 124, rfl⟩
abbrev main_cst_21 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_c_22 : Ref sig .tc := ⟨.hbm, 130, rfl⟩
abbrev main_c_23 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v80 : Ref sig .tc := ⟨.hbm, 137, rfl⟩
abbrev main_cst_24 : Ref sig .tc := ⟨.hbm, 138, rfl⟩
abbrev main_v81 : Ref sig .tc := ⟨.hbm, 139, rfl⟩
abbrev main_v82 : Ref sig .tc := ⟨.hbm, 140, rfl⟩
abbrev main_cst_25 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_26 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_27 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_call7_v0 : Ref sig .tc := ⟨.hbm, 162, rfl⟩
abbrev main_call7_cst : Ref sig .tc := ⟨.hbm, 163, rfl⟩
abbrev main_call7_c : Ref sig .tc := ⟨.hbm, 164, rfl⟩
abbrev main_call7_v1_0 : Ref sig .tc := ⟨.hbm, 165, rfl⟩
abbrev main_v98 : Ref sig .tc := ⟨.hbm, 166, rfl⟩
abbrev main_v99 : Ref sig .tc := ⟨.hbm, 167, rfl⟩
abbrev main_cst_28 : Ref sig .tc := ⟨.hbm, 168, rfl⟩
abbrev main_v100 : Ref sig .tc := ⟨.hbm, 169, rfl⟩
abbrev main_v101 : Ref sig .tc := ⟨.hbm, 170, rfl⟩
abbrev main_cst_29 : Ref sig .tc := ⟨.hbm, 171, rfl⟩
abbrev main_v102 : Ref sig .tc := ⟨.hbm, 172, rfl⟩
abbrev main_v103 : Ref sig .tc := ⟨.hbm, 173, rfl⟩
abbrev main_cst_30 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_31 : Ref sig .tc := ⟨.hbm, 186, rfl⟩
abbrev main_v115 : Ref sig .tc := ⟨.hbm, 187, rfl⟩
abbrev main_v116 : Ref sig .tc := ⟨.hbm, 188, rfl⟩
abbrev main_cst_32 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_33 : Ref sig .tc := ⟨.hbm, 198, rfl⟩
abbrev main_v125 : Ref sig .tc := ⟨.hbm, 199, rfl⟩
abbrev main_v126 : Ref sig .tc := ⟨.hbm, 200, rfl⟩
abbrev main_cst_34 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_35 : Ref sig .tc := ⟨.hbm, 210, rfl⟩
abbrev main_v135 : Ref sig .tc := ⟨.hbm, 211, rfl⟩
abbrev main_v136 : Ref sig .tc := ⟨.hbm, 212, rfl⟩
abbrev main_cst_36 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩

abbrev nD : Nat := 1
abbrev τ : Topo := Topo.v7x

variable {F : FTy → Type} [FloatOps F]
-- ==== Proof.Hist.lean ====
/-
  The histogram the SparseCore keeps in its own memory, as plain arithmetic: what one indexed add of ones leaves
  (`storeIdx_ones`), what the last lane of a running sum holds (`scan_last`), and the scan for the largest and the second
  largest of a hundred words (`top2`).
-/
module

public import Idealize.ShloMosaic.Lib.ValueIdxCore
public import Idealize.ShloMosaic.PureOps
public import Idealize.ShloMosaic.Lib.Scf
public import Mathlib.Algebra.BigOperators.Fin

@[expose] public section

noncomputable section

namespace Cert.Proof.Hist

open Idealize.ShloMosaic Idealize.ShloMosaic.ValueIdx

/-- The shape of a vector register's sixteen lanes, and of the histogram's words. -/
abbrev L16 : Shape := ⟨1, ![16]⟩
abbrev H6144 : Shape := ⟨1, ![6144]⟩

/-- How many of the sixteen lanes name word `j`. -/
def hits (ix : IVec L16 32) (j : ℕ) : ℕ := ∑ x : Fin 16, if (ix (ix1 x)).toNat = j then 1 else 0

theorem ofLane_eq (x : Fin 16) : (Shape.ofLane (d := ![16]) x : L16.Idx) = ix1 x := by
  funext a; obtain rfl : a = 0 := Subsingleton.elim _ _; rfl

theorem ofNat_add (a b : ℕ) : BitVec.ofNat 32 (a + b) = BitVec.ofNat 32 a + BitVec.ofNat 32 b := by
  simp [BitVec.ofNat_add]

variable {F : FTy → Type} [FloatOps F]

/-- One lane's add of a one at the word `i`. -/
def bump (i : H6144.Idx) (g : H6144.Idx → BitVec 32) : H6144.Idx → BitVec 32 :=
  fun j => if (∀ a, (j a).val = (i a).val) then g i + 1#32 else g j

/-- Adding ones over a list of lanes adds to each word the number of the list's lanes naming it. -/
theorem fold_bump (w : Fin 16 → H6144.Idx) (l : List (Fin 16)) (f : H6144.Idx → BitVec 32) (j : H6144.Idx) :
    l.foldl (fun g k => bump (w k) g) f j
      = f j + BitVec.ofNat 32 ((l.map fun x => if (w x 0).val = (j 0).val then 1 else 0).sum) := by
  induction l generalizing f with
  | nil => simp
  | cons k l ih =>
    rw [List.foldl_cons, ih, List.map_cons, List.sum_cons, ofNat_add, ← BitVec.add_assoc]
    congr 1
    unfold bump
    by_cases hj : (w k 0).val = (j 0).val
    · have hi : w k = j := by
        funext a; obtain rfl : a = 0 := Subsingleton.elim _ _
        exact Fin.ext hj
      rw [hi, if_pos (fun _ => rfl), if_pos rfl]
    · rw [if_neg (fun hh => hj (hh 0).symm), if_neg hj]; simp

/-- The indexed add of ones on all sixteen lanes. -/
theorem storeIdx_ones (f : Vec F H6144 .i32) (ix : IVec L16 32)
    (h : ∀ a x, ((![ix] : Fin 1 → IVec L16 32) a x).toNat < H6144.size a) (j : H6144.Idx) :
    storeIdx (F := F) (e := .i32) (d := ![16]) f ![ix] (fun _ => 1#32) (fun _ => 1#1) true h j
      = (f j : BitVec 32) + BitVec.ofNat 32 (hits ix (j 0).val) := by
  have h1 : storeIdx (F := F) (e := .i32) (d := ![16]) f ![ix] (fun _ => 1#32) (fun _ => 1#1) true h
      = (List.finRange 16).foldl (fun g k => bump (idxAt (s := H6144) (t := L16) ![ix] h (Shape.ofLane (d := ![16]) k)) g) f := rfl
  rw [h1]
  refine (fold_bump (fun k : Fin 16 => idxAt (s := H6144) (t := L16) ![ix] h (Shape.ofLane (d := ![16]) k)) (List.finRange 16) f j).trans ?_
  rw [hits, Fin.sum_univ_def]
  simp only [← ofLane_eq]
  rfl

theorem ofNat_sum_cons (a b : ℕ) : BitVec.ofNat 32 a + BitVec.ofNat 32 b = BitVec.ofNat 32 (a + b) := (ofNat_add a b).symm

/-- The last lane of a running sum is the sum of the sixteen lanes. -/
theorem scan_last (v : IVec L16 32) (n : Fin 16 → ℕ) (hv : ∀ x, v (ix1 x) = BitVec.ofNat 32 (n x))
    (hp : ∀ a, (![15] : Fin 1 → Nat) a < L16.size a) :
    extractAt ![15] (scan (d := ![16]) .sum v) hp = BitVec.ofNat 32 (∑ x : Fin 16, n x) := by
  have hs : ((List.finRange 16).filter fun k => decide (0 < k.val ∧ k.val ≤ 15))
      = [1, 2, 3, 4, 5, 6, 7, 8, 9, 10, 11, 12, 13, 14, 15] := by decide
  have h1 : extractAt ![15] (scan (d := ![16]) .sum v) hp
      = ((List.finRange 16).filter fun k => decide (0 < k.val ∧ k.val ≤ 15)).foldl
          (fun r k => r + v (Shape.ofLane (d := ![16]) k)) (v (Shape.ofLane (d := ![16]) (0 : Fin 16))) := rfl
  have h2 : ∀ (l : List (Fin 16)) (a : ℕ), l.foldl (fun (r : BitVec 32) (k : Fin 16) => r + v (Shape.ofLane (d := ![16]) k)) (BitVec.ofNat 32 a)
      = BitVec.ofNat 32 (a + (l.map n).sum) := by
    intro l; induction l with
    | nil => intro a; rw [List.foldl_nil, List.map_nil, List.sum_nil, Nat.add_zero]
    | cons k l ih =>
      intro a
      have hk : v (Shape.ofLane (d := ![16]) k) = BitVec.ofNat 32 (n k) := by rw [← hv]; exact congrArg v (ofLane_eq k)
      rw [List.foldl_cons, hk, ofNat_sum_cons, ih, List.map_cons, List.sum_cons, Nat.add_assoc]
  have h0 : v (Shape.ofLane (d := ![16]) (0 : Fin 16)) = BitVec.ofNat 32 (n 0) := by rw [← hv]; exact congrArg v (ofLane_eq 0)
  rw [h1, hs, h0]
  refine (h2 _ _).trans ?_
  congr 1

/-! ## The bin a value falls in -/

/-- A word held between 0 and 99. -/
def clamp (w : BitVec 32) : BitVec 32 := IntOp.minsi (IntOp.maxsi w 0#32) 99#32

theorem clamp_toInt (w : BitVec 32) : (clamp w).toInt = min (max w.toInt 0) 99 := by
  unfold clamp IntOp.minsi IntOp.maxsi
  simp only [BitVec.slt, decide_eq_true_eq]
  split_ifs <;> simp_all <;> omega

theorem clamp_toNat (w : BitVec 32) : ((clamp w).toNat : ℤ) = min (max w.toInt 0) 99 := by
  have h := clamp_toInt w
  rw [BitVec.toInt_eq_toNat_cond] at h
  have := (clamp w).isLt
  split_ifs at h <;> omega

theorem clamp_le (w : BitVec 32) : (clamp w).toNat ≤ 99 := by have := clamp_toNat w; omega

/-- The bin of the value `v` in bins of width `bs` from `lo` on (both as words), held between 0 and 99. -/
def bw (lo bs : BitVec 32) (v : F .f32) : BitVec 32 :=
  clamp ((fptosi 32 (divf (subf (broadcast L16 v) (broadcast L16 (Scalar.ofBits .f32 lo)))
    (broadcast L16 (Scalar.ofBits .f32 bs)) : FVec F L16 .f32) : IVec L16 32) (ix1 0))

/-- The word of the histogram a lane names: its channel's base, sixteen words a bin, one word a lane. -/
theorem lane_toNat (b w : BitVec 32) (x : Fin 16) (hb : b.toNat ≤ 4096) :
    (b + clamp w * 16#32 + BitVec.ofNat 32 x.val).toNat = b.toNat + 16 * (clamp w).toNat + x.val := by
  have := clamp_le w
  have := x.isLt
  rw [BitVec.toNat_add, BitVec.toNat_add, BitVec.toNat_mul, BitVec.toNat_ofNat, BitVec.toNat_ofNat]
  omega

/-! ## The scan for the two largest -/

abbrev W4 : Type := BitVec 32 × BitVec 32 × BitVec 32 × BitVec 32

/-- One step of the scan: word `x` at place `k`, against the largest so far and its place, the second largest so far and
    its place. -/
def top2Step (k x : BitVec 32) (s : W4) : W4 :=
  let v61 : BitVec 1 := Scalar.cmpi .sgt x s.1
  let v64 : BitVec 1 := Scalar.andi (Scalar.xori v61 1#1) (Scalar.cmpi .sgt x s.2.2.1)
  (Scalar.select v61 x s.1, Scalar.select v61 k s.2.1,
    Scalar.select v61 s.1 (Scalar.select v64 x s.2.2.1), Scalar.select v61 s.2.1 (Scalar.select v64 k s.2.2.2))

/-- The scan over the first `n` of the words `c`. -/
def top2 (c : ℕ → BitVec 32) : ℕ → W4
  | 0 => (4294967295#32, 0#32, 4294967295#32, 0#32)
  | n + 1 => top2Step (Scf.iv 0#32 1#32 n) (c n) (top2 c n)

end Cert.Proof.Hist

end
-- ==== Proof.IdealVals.lean ====
/-
  What one task of the kernel computes, as plain functions of the operand: the words its lanes name, the histogram its
  counted loops leave, the three scans over it, and the sixteen lanes it writes out.
-/
module

public import proofs.«01_k».proof.Defs
public import proofs.«01_k».proof.Proof.Hist
public import proofs.«01_k».proof.Proof.Gen.KernelIdeal
public import proofs.«01_k».proof.Proof.Gen.KernelIdeal.Skeleton
public import Idealize.ShloMosaic.Lib.ValueIdxCoords

@[expose] public section

noncomputable section

namespace Cert.Proof.KI

open Cert.KernelIdeal Cert.KernelIdeal.Gen Cert.Proof.Hist
open Idealize.ShloMosaic Idealize.ShloMosaic.ValueIdx

variable {F : FTy → Type} [FloatOps F]

/-! ## The words the lanes name -/

theorem cast_lane (v : Vec F S1x16 .f32) (x : Fin 16) :
    (shapeCast S16 v shapeCasts_S1x16_S16 : Vec F S16 .f32) (ix1 x) = v (ix2 0 x) := by
  refine congrArg v ?_
  refine Shape.reshapeEquiv_eq_of_rowMajor _ ?_
  rw [Shape.rowMajor_val_two, Shape.rowMajor_val_one]
  show 0 * 16 + x.val = x.val
  omega

theorem pay4_lane (v : Vec F S1x16 .f32) (x : Fin 16) :
    k0_pay4 v (ix1 x) = 0#32 + bw 0x00000000#32 0x3F800000#32 (v (ix2 0 x)) * 16#32 + BitVec.ofNat 32 x.val := by
  rw [← cast_lane v x]
  show 0#32 + _ * 16#32 + BitVec.ofNat 32 (0 * 16 + x.val) = _
  rw [Nat.zero_mul, Nat.zero_add]; rfl

theorem pay5_lane (v : Vec F S1x16 .f32) (x : Fin 16) :
    k0_pay5 v (ix1 x) = 2048#32 + bw 0xC3000000#32 0x40233333#32 (v (ix2 0 x)) * 16#32 + BitVec.ofNat 32 x.val := by
  rw [← cast_lane v x]
  show 2048#32 + _ * 16#32 + BitVec.ofNat 32 (0 * 16 + x.val) = _
  rw [Nat.zero_mul, Nat.zero_add]; rfl

theorem pay6_lane (v : Vec F S1x16 .f32) (x : Fin 16) :
    k0_pay6 v (ix1 x) = 4096#32 + bw 0xC3000000#32 0x40233333#32 (v (ix2 0 x)) * 16#32 + BitVec.ofNat 32 x.val := by
  rw [← cast_lane v x]
  show 4096#32 + _ * 16#32 + BitVec.ofNat 32 (0 * 16 + x.val) = _
  rw [Nat.zero_mul, Nat.zero_add]; rfl

theorem pay4_toNat (v : Vec F S1x16 .f32) (x : Fin 16) :
    (k0_pay4 v (ix1 x)).toNat = 16 * (bw 0x00000000#32 0x3F800000#32 (v (ix2 0 x))).toNat + x.val := by
  rw [pay4_lane]
  exact (lane_toNat _ _ x (by decide)).trans (by rw [show (0#32 : BitVec 32).toNat = 0 from rfl, Nat.zero_add]; rfl)
theorem pay5_toNat (v : Vec F S1x16 .f32) (x : Fin 16) :
    (k0_pay5 v (ix1 x)).toNat = 2048 + 16 * (bw 0xC3000000#32 0x40233333#32 (v (ix2 0 x))).toNat + x.val := by
  rw [pay5_lane]; exact lane_toNat _ _ x (by decide)
theorem pay6_toNat (v : Vec F S1x16 .f32) (x : Fin 16) :
    (k0_pay6 v (ix1 x)).toNat = 4096 + 16 * (bw 0xC3000000#32 0x40233333#32 (v (ix2 0 x))).toNat + x.val := by
  rw [pay6_lane]; exact lane_toNat _ _ x (by decide)

theorem idx16 (x : S16.Idx) : x = ix1 (x 0) := by funext a; obtain rfl : a = 0 := Subsingleton.elim _ _; rfl

theorem chk_of (w : IVec S16 32) (h : ∀ x : Fin 16, (w (ix1 x)).toNat < 6144) :
    ∀ a x, ((![w] : Fin 1 → IVec S16 32) a x).toNat < S6144.size a := by
  intro a x; obtain rfl : a = 0 := Subsingleton.elim _ _
  rw [idx16 x]; exact h (x 0)

/-- Every lane names a word of the histogram, whatever the operand holds. -/
theorem chk1 (v : Vec F S1x16 .f32) : k0_chk1 (k0_pay4 v) := chk_of _ fun x => by
  rw [pay4_toNat]; have := clamp_le; have := x.isLt
  have h : (bw 0x00000000#32 0x3F800000#32 (v (ix2 0 x))).toNat ≤ 99 := clamp_le _
  omega
theorem chk2 (v : Vec F S1x16 .f32) : k0_chk2 (k0_pay5 v) := chk_of _ fun x => by
  rw [pay5_toNat]; have := x.isLt
  have h : (bw 0xC3000000#32 0x40233333#32 (v (ix2 0 x))).toNat ≤ 99 := clamp_le _
  omega
theorem chk3 (v : Vec F S1x16 .f32) : k0_chk3 (k0_pay6 v) := chk_of _ fun x => by
  rw [pay6_toNat]; have := x.isLt
  have h : (bw 0xC3000000#32 0x40233333#32 (v (ix2 0 x))).toNat ≤ 99 := clamp_le _
  omega

/-! ## The rows the inner loops read -/

theorem k0_off3_eq : ∀ t : Fin k0_t3_loop.trips, k0_off3 t = ![t.val / 32, 16 * (t.val % 32)] := by decide +kernel
theorem k0_off5_eq : ∀ t : Fin k0_t5_loop.trips, k0_off5 t = ![t.val / 32, 16 * (t.val % 32)] := by decide +kernel
theorem k0_off7_eq : ∀ t : Fin k0_t7_loop.trips, k0_off7 t = ![t.val / 32, 16 * (t.val % 32)] := by decide +kernel

/-- The sixteen values trip `t` reads of a (64, 512) block. -/
def rowOf (B : Vec F S64x512 .f32) (t : ℕ) : Vec F S1x16 .f32 := fun x =>
  B (ix2 ⟨t / 32 % 64, Nat.mod_lt _ (by decide)⟩ ⟨(16 * (t % 32) + (x 1).val) % 512, Nat.mod_lt _ (by decide)⟩)

/-- Block `c` of 64 rows of image `w`'s channel `ch`. -/
def blockOf (lab : Vec F S32x3x512x512 .f32) (w : Fin 32) (ch : Fin 3) (c : ℕ) : Vec F S64x512 .f32 := fun x =>
  lab (ix4 w ch ⟨(64 * c + (x 0).val) % 512, Nat.mod_lt _ (by decide)⟩ (x 1))

/-- The number of adds at word `j` in the first `t` trips over a block. -/
def cntB (pay : Vec F S1x16 .f32 → IVec S16 32) (B : Vec F S64x512 .f32) (t j : ℕ) : ℕ :=
  ∑ s ∈ Finset.range t, hits (pay (rowOf B s)) j

/-- The number of adds at word `j` in the first `k` blocks of image `w`'s channel `ch`. -/
def cntC (pay : Vec F S1x16 .f32 → IVec S16 32) (lab : Vec F S32x3x512x512 .f32) (w : Fin 32) (ch : Fin 3) (k j : ℕ) : ℕ :=
  ∑ c ∈ Finset.range k, cntB pay (blockOf lab w ch c) 2048 j

/-- The histogram all three channels leave. -/
def hist (lab : Vec F S32x3x512x512 .f32) (w : Fin 32) (j : ℕ) : ℕ :=
  cntC k0_pay4 lab w 0 8 j + cntC k0_pay5 lab w 1 8 j + cntC k0_pay6 lab w 2 8 j

/-- Channel `ch`'s count of bin `k`: its sixteen words added. -/
def binc (lab : Vec F S32x3x512x512 .f32) (w : Fin 32) (ch k : ℕ) : ℕ := ∑ x : Fin 16, hist lab w (2048 * ch + 16 * k + x.val)

/-- Channel `ch`'s scan. -/
def scan2 (lab : Vec F S32x3x512x512 .f32) (w : Fin 32) (ch : ℕ) : W4 := top2 (fun k => BitVec.ofNat 32 (binc lab w ch k)) 100

/-- The sixteen lanes the task writes out. -/
def outRow (lab : Vec F S32x3x512x512 .f32) (w : Fin 32) : FVec F S16 .f32 :=
  k0_pay1 (k0_pay10 (F := F) (scan2 lab w 0).2.2.2) (k0_pay11 (iota .scVector S16 32 [0] iota_S16_d0_w32_scVector))
    (k0_pay12 (F := F) (iota .scVector S16 32 [0] iota_S16_d0_w32_scVector) (scan2 lab w 1).2.1 (scan2 lab w 2).2.1)

/-- The peaks array the whole call leaves. -/
def PK (lab : Vec F S32x3x512x512 .f32) : Vec F S32x16 .f32 := fun x => outRow lab (x 0) (ix1 (x 1))

end Cert.Proof.KI

end
-- ==== Proof.IdealLoops.lean ====
/-
  The counted loops of one task, each by an invariant that carries what its buffers hold: the histogram zeroed, the adds of
  the three channels, the three scans.
-/
module

public import proofs.«01_k».proof.Proof.IdealVals
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen Cert.Proof.Hist

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the grid pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

/-! ## The kernel's operands, as the body is called with them -/

local notation "xV" => (Memref.whole Cert.KernelIdeal.main_arg0_scv : Memref Cert.KernelIdeal.sig Kind.scVector Space.hbm Cert.KernelIdeal.S32x3x512x512 EltTy.f32)
local notation "oV" => (Memref.whole Cert.KernelIdeal.main_v0_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S64x512 EltTy.f32)
local notation "sH" => (Memref.whole Cert.KernelIdeal.cc0_scratch1 : Memref Cert.KernelIdeal.sig Kind.scVector Space.vmem Cert.KernelIdeal.S6144 EltTy.i32)
local notation "sO" => (Memref.whole Cert.KernelIdeal.cc0_scratch2 : Memref Cert.KernelIdeal.sig Kind.scVector Space.vmem Cert.KernelIdeal.S16 EltTy.f32)
local notation "wh" => (Memref.isWhole_whole _)

abbrev cV (L : grid0.Coords) : Fin τ.nSC := (L 0).castLE hcore0
abbrev jV (L : grid0.Coords) : Fin τ.nSub := (L 1).castLE hsub0

variable [FloatOps F]

section Tile

variable (d : Dev nD) (L : grid0.Coords)

/-- The thread of the task. -/
abbrev tt : Thread nD τ := V d (cV L) (jV L)

/-- The block buffer, the histogram and the output lanes, held whole at given contents. -/
abbrev bPts (B : Vec F S64x512 .f32) : sProp 𝕄 := (sB).view.loc (tt d L) ↦{fullShare} B
abbrev hPts (h : Vec F S6144 .i32) : sProp 𝕄 := (sH).view.loc (tt d L) ↦{fullShare} h

/-- A loop of adds over the block `B`: before trip `k` the histogram holds `h` and the adds of the trips before. -/
def invA (pay : Vec F S1x16 .f32 → IVec S16 32) (B : Vec F S64x512 .f32) (h : Vec F S6144 .i32) (k : ℕ) (_ : BitVec 32) : sProp 𝕄 :=
  iprop(bPts d L B ∗ ∃ f : Vec F S6144 .i32, ⌜∀ j, (f j : BitVec 32) = h j + BitVec.ofNat 32 (cntB pay B k (j 0).val)⌝ ∗ hPts d L f)

omit [FloatOps F] in
theorem read3 (B : Vec F S64x512 .f32) (k : Fin k0_t3_loop.trips) :
    (sB).view.readAt (Elt F) (Rect.unit (s := S64x512) (k0_off3 k) S1x16.size (k0_off3_inb k)).toLoadRect B = rowOf B k.val := by
  have hk : k.val < 2048 := k.isLt
  funext x
  refine congrArg B ?_
  funext a; refine Fin.ext ?_
  refine (congrArg (· + 1 * (x a).val) (congrFun (k0_off3_eq k) a)).trans ?_
  match a with
  | 0 => show k.val / 32 + 1 * (x 0).val = k.val / 32 % 64; have : (x 0).val < 1 := (x 0).isLt; omega
  | 1 => show 16 * (k.val % 32) + 1 * (x 1).val = (16 * (k.val % 32) + (x 1).val) % 512; have : (x 1).val < 16 := (x 1).isLt; omega

omit [FloatOps F] in
theorem read5 (B : Vec F S64x512 .f32) (k : Fin k0_t5_loop.trips) :
    (sB).view.readAt (Elt F) (Rect.unit (s := S64x512) (k0_off5 k) S1x16.size (k0_off5_inb k)).toLoadRect B = rowOf B k.val := by
  have hk : k.val < 2048 := k.isLt
  funext x
  refine congrArg B ?_
  funext a; refine Fin.ext ?_
  refine (congrArg (· + 1 * (x a).val) (congrFun (k0_off5_eq k) a)).trans ?_
  match a with
  | 0 => show k.val / 32 + 1 * (x 0).val = k.val / 32 % 64; have : (x 0).val < 1 := (x 0).isLt; omega
  | 1 => show 16 * (k.val % 32) + 1 * (x 1).val = (16 * (k.val % 32) + (x 1).val) % 512; have : (x 1).val < 16 := (x 1).isLt; omega

omit [FloatOps F] in
theorem read7 (B : Vec F S64x512 .f32) (k : Fin k0_t7_loop.trips) :
    (sB).view.readAt (Elt F) (Rect.unit (s := S64x512) (k0_off7 k) S1x16.size (k0_off7_inb k)).toLoadRect B = rowOf B k.val := by
  have hk : k.val < 2048 := k.isLt
  funext x
  refine congrArg B ?_
  funext a; refine Fin.ext ?_
  refine (congrArg (· + 1 * (x a).val) (congrFun (k0_off7_eq k) a)).trans ?_
  match a with
  | 0 => show k.val / 32 + 1 * (x 0).val = k.val / 32 % 64; have : (x 0).val < 1 := (x 0).isLt; omega
  | 1 => show 16 * (k.val % 32) + 1 * (x 1).val = (16 * (k.val % 32) + (x 1).val) % 512; have : (x 1).val < 16 := (x 1).isLt; omega

theorem hSet : ((sH).access (.whole S6144)).set = Finset.univ := Memref.set_access_whole cc0_scratch1
omit [FloatOps F] in
theorem hWrite (f w : Vec F S6144 .i32) : ((sH).access (.whole S6144)).write (Elt F) f w Finset.univ = w :=
  Memref.write_access_whole_univ _ cc0_scratch1 f w
omit [FloatOps F] in
theorem hRead (f : Vec F S6144 .i32) : ((sH).access (.whole S6144)).read (Elt F) f = f :=
  Memref.read_access_whole _ cc0_scratch1 f
omit [FloatOps F] in
theorem hPts_eq (f : Vec F S6144 .i32) :
    (hPts d L f : sProp 𝕄) = (((sH).access (.whole S6144)).loc (tt d L) ↦[((sH).access (.whole S6144)).set]{fullShare} f) := by
  rw [hSet]

/-- An indexed add of ones in a task: the histogram gains, at each word, the number of lanes naming it. -/
theorem wp_add (w : IVec S16 32) (f : Vec F S6144 .i32)
    (hw : ∀ a x, ((![w] : Fin 1 → IVec S16 32) a x).toNat < S6144.size a) (hs : ((sH).access (.whole S6144)).Stores Finset.univ) {α : Type} (kk : PUnit → Prog (TpuEff nD τ sig (Elt F) Λ₀ (tt d L).2) α)
    (Q : α → sProp 𝕄) :
    hPts d L f ⊢ iprop((∀ g : Vec F S6144 .i32, ⌜∀ j, (g j : BitVec 32) = f j + BitVec.ofNat 32 (hits w (j 0).val)⌝ -∗ hPts d L g
        -∗ wp frame (wpE (defs₀ (F := F)) 𝒱₀ (tt d L) none) Set.univ (kk ⟨⟩) Q)
      -∗ wp frame (wpE (defs₀ (F := F)) 𝒱₀ (tt d L) none) Set.univ
          (SparseCore.vectorStoreIdx sH ![w] k0_pay2 (fun _ => 1#1) true hw hs >>= kk) Q) := by
  iintro HH Hk
  ihave HH' := (Entails.of_eq (hPts_eq d L f)) $$ HH
  iapply (SparseCore.wp_vectorStoreIdx 𝒱₀ (tt d L) none Set.univ (base := sH)) $$ HH'; iintro HH
  rw [Memref.write_access_whole_univ, Memref.read_access_whole, Memref.set_access_whole]
  iapply Hk $$ [] [HH]
  · ipureintro; intro j; exact storeIdx_ones (F := F) f w hw j
  · iexact HH

theorem step3 (B : Vec F S64x512 .f32) (h : Vec F S6144 .i32) (k : Fin k0_t3_loop.trips) (acc : BitVec 32) :
    invA d L k0_pay4 B h k acc ⊢ wp frame (wpE (defs₀ (F := F)) 𝒱₀ (tt d L) none) Set.univ
      (k0_t3_body L xV wh oV wh sB wh sH wh sO wh cc0_scoped0 cc0_scoped1 cc0_scoped2 cc0_scoped3 k acc) (invA d L k0_pay4 B h (k.val + 1)) := by
  unfold invA k0_t3_body
  simp only [Prog.lift, Prog.bind_op, Prog.bind_ret, Prog.pure_eq_ret]
  iintro ⟨HB, %f, %hf, HH⟩
  iapply (wp_load 𝒱₀ (tt d L) none Set.univ (m := sB) (S := Finset.univ) (Finset.subset_univ _)) $$ HB; iintro HB
  rw [read3, wp_assume_of _ _ _ _ (chk1 _)]
  iapply (wp_add d L (k0_pay4 (rowOf B k.val)) f _ _) $$ HH
  iintro %g %hg HH
  rw [wp_ret]; imodintro
  isplitl [HB]; · iexact HB
  iexists _; isplitr; swap; · iexact HH
  ipureintro; intro j
  rw [hg, hf, BitVec.add_assoc, ← ofNat_add, cntB, cntB, Finset.sum_range_succ]

theorem step5 (B : Vec F S64x512 .f32) (h : Vec F S6144 .i32) (k : Fin k0_t5_loop.trips) (acc : BitVec 32) :
    invA d L k0_pay5 B h k acc ⊢ wp frame (wpE (defs₀ (F := F)) 𝒱₀ (tt d L) none) Set.univ
      (k0_t5_body L xV wh oV wh sB wh sH wh sO wh cc0_scoped0 cc0_scoped1 cc0_scoped2 cc0_scoped3 k acc) (invA d L k0_pay5 B h (k.val + 1)) := by
  unfold invA k0_t5_body
  simp only [Prog.lift, Prog.bind_op, Prog.bind_ret, Prog.pure_eq_ret]
  iintro ⟨HB, %f, %hf, HH⟩
  iapply (wp_load 𝒱₀ (tt d L) none Set.univ (m := sB) (S := Finset.univ) (Finset.subset_univ _)) $$ HB; iintro HB
  rw [read5, wp_assume_of _ _ _ _ (chk2 _)]
  iapply (wp_add d L (k0_pay5 (rowOf B k.val)) f _ _) $$ HH
  iintro %g %hg HH
  rw [wp_ret]; imodintro
  isplitl [HB]; · iexact HB
  iexists _; isplitr; swap; · iexact HH
  ipureintro; intro j
  rw [hg, hf, BitVec.add_assoc, ← ofNat_add, cntB, cntB, Finset.sum_range_succ]

theorem step7 (B : Vec F S64x512 .f32) (h : Vec F S6144 .i32) (k : Fin k0_t7_loop.trips) (acc : BitVec 32) :
    invA d L k0_pay6 B h k acc ⊢ wp frame (wpE (defs₀ (F := F)) 𝒱₀ (tt d L) none) Set.univ
      (k0_t7_body L xV wh oV wh sB wh sH wh sO wh cc0_scoped0 cc0_scoped1 cc0_scoped2 cc0_scoped3 k acc) (invA d L k0_pay6 B h (k.val + 1)) := by
  unfold invA k0_t7_body
  simp only [Prog.lift, Prog.bind_op, Prog.bind_ret, Prog.pure_eq_ret]
  iintro ⟨HB, %f, %hf, HH⟩
  iapply (wp_load 𝒱₀ (tt d L) none Set.univ (m := sB) (S := Finset.univ) (Finset.subset_univ _)) $$ HB; iintro HB
  rw [read7, wp_assume_of _ _ _ _ (chk3 _)]
  iapply (wp_add d L (k0_pay6 (rowOf B k.val)) f _ _) $$ HH
  iintro %g %hg HH
  rw [wp_ret]; imodintro
  isplitl [HB]; · iexact HB
  iexists _; isplitr; swap; · iexact HH
  ipureintro; intro j
  rw [hg, hf, BitVec.add_assoc, ← ofNat_add, cntB, cntB, Finset.sum_range_succ]

/-! ## The histogram zeroed -/

/-- Before trip `k` the first `16 k` words are zero. -/
def inv1 (k : ℕ) (_ : BitVec 32) : sProp 𝕄 :=
  iprop(∃ f : Vec F S6144 .i32, ⌜∀ j, (j 0).val < 16 * k → (f j : BitVec 32) = 0#32⌝ ∗ hPts d L f)

theorem step1 (k : Fin k0_t1_loop.trips) (acc : BitVec 32) :
    inv1 d L k acc ⊢ wp frame (wpE (defs₀ (F := F)) 𝒱₀ (tt d L) none) Set.univ
      (k0_t1_body L xV wh oV wh sB wh sH wh sO wh cc0_scoped0 cc0_scoped1 cc0_scoped2 cc0_scoped3 k acc) (inv1 (F := F) d L (k.val + 1)) := by
  unfold inv1 k0_t1_body
  simp only [Prog.lift, Prog.bind_op, Prog.bind_ret, Prog.pure_eq_ret]
  iintro ⟨%f, %hf, HH⟩
  iapply (wp_load 𝒱₀ (tt d L) none Set.univ (m := sH) (S := Finset.univ) (Finset.subset_univ _)) $$ HH; iintro HH
  iapply (wp_store 𝒱₀ (tt d L) none Set.univ (m := sH) (r := Rect.unit (s := S6144) (k0_off1 k) S16.size (k0_off1_inb k)) (Mk := Finset.univ)
    (S := Finset.univ) (Finset.subset_univ _)) $$ HH; iintro HH
  rw [wp_ret]; imodintro
  iexists _; isplitr; swap; · iexact HH
  ipureintro; intro j hj
  have ho : (Rect.unit (s := S6144) (k0_off1 k) S16.size (k0_off1_inb k)).off 0 = 16 * k.val := congrFun (k0_off1_eq k) 0
  by_cases hlt : (j 0).val < 16 * k.val
  · refine (View.read_writes_cons_miss_of_axis (sH).view f ⟨Rect.unit (s := S6144) (k0_off1 k) S16.size (k0_off1_inb k), k0_pay3⟩ [] j 0
      (16 * k.val) 16 ho rfl rfl (.inl hlt)).trans ?_
    exact hf j hlt
  · refine (View.read_writes_cons_hit_of_coords (sH).view f (Rect.unit (s := S6144) (k0_off1 k) S16.size (k0_off1_inb k)) k0_pay3 []
      (ix1 ⟨(j 0).val - 16 * k.val, by omega⟩) j ?_).trans rfl
    intro a; obtain rfl : a = (0 : Fin 1) := Subsingleton.elim (α := Fin 1) _ _
    rw [ho]
    show (j 0).val = 16 * k.val + 1 * ((j 0).val - 16 * k.val)
    omega

/-! ## The scans -/

/-- Before trip `k` the carried words are the scan's over the first `k` counts `c`. -/
def invS (c : ℕ → BitVec 32) (f : Vec F S6144 .i32) (k : ℕ) (acc : W4) : sProp 𝕄 :=
  iprop(⌜acc = top2 c k⌝ ∗ hPts d L f)

omit [FloatOps F] in
theorem row_last (f : Vec F S6144 .i32) (N : ℕ → ℕ) (hf : ∀ j, (f j : BitVec 32) = BitVec.ofNat 32 (N (j 0).val)) (o : ℕ) (off : Fin 1 → ℕ)
    (hoff : off 0 = o) (hb : ∀ a, off a + S16.size a ≤ S6144.size a) :
    extractAt ![15] (scan (d := ![16]) .sum ((sH).view.readAt (Elt F) (Rect.unit (s := S6144) off S16.size hb).toLoadRect f)) inpos_S16_p15
      = BitVec.ofNat 32 (∑ x : Fin 16, N (o + x.val)) := by
  refine scan_last _ (fun x => N (o + x.val)) (fun x => ?_) inpos_S16_p15
  refine (hf _).trans ?_
  show BitVec.ofNat 32 (N (off 0 + 1 * x.val)) = _
  rw [hoff, Nat.one_mul]

theorem step8 (f : Vec F S6144 .i32) (N : ℕ → ℕ) (hf : ∀ j, (f j : BitVec 32) = BitVec.ofNat 32 (N (j 0).val)) (k : Fin k0_t8_loop.trips) (acc : W4) :
    invS d L (fun k => BitVec.ofNat 32 (∑ x : Fin 16, N (2048 * 0 + 16 * k + x.val))) f k acc
      ⊢ wp frame (wpE (defs₀ (F := F)) 𝒱₀ (tt d L) none) Set.univ
      (k0_t8_body L xV wh oV wh sB wh sH wh sO wh cc0_scoped0 cc0_scoped1 cc0_scoped2 cc0_scoped3 k acc)
      (invS d L (fun k => BitVec.ofNat 32 (∑ x : Fin 16, N (2048 * 0 + 16 * k + x.val))) f (k.val + 1)) := by
  obtain ⟨a0, a1, a2, a3⟩ := acc
  unfold invS k0_t8_body
  simp only [Prog.lift, Prog.bind_op, Prog.bind_ret, Prog.pure_eq_ret]
  iintro ⟨%hacc, HH⟩
  iapply (wp_load 𝒱₀ (tt d L) none Set.univ (m := sH) (S := Finset.univ) (Finset.subset_univ _)) $$ HH; iintro HH
  rw [wp_ret]; imodintro
  isplitr; swap; · iexact HH
  ipureintro
  have hrow := row_last f N hf (2048 * 0 + 16 * k.val) (k0_off8 k) (by rw [k0_off8_eq]; show 16 * k.val = 2048 * 0 + 16 * k.val; omega) (k0_off8_inb k)
  rw [top2, ← hacc]
  unfold top2Step k0_pay7
  rw [← hrow]

theorem step9 (f : Vec F S6144 .i32) (N : ℕ → ℕ) (hf : ∀ j, (f j : BitVec 32) = BitVec.ofNat 32 (N (j 0).val)) (v2 : IVec S16 32) (v14 : BitVec 32) (k : Fin k0_t9_loop.trips) (acc : W4) :
    invS d L (fun k => BitVec.ofNat 32 (∑ x : Fin 16, N (2048 * 1 + 16 * k + x.val))) f k acc
      ⊢ wp frame (wpE (defs₀ (F := F)) 𝒱₀ (tt d L) none) Set.univ
      (k0_t9_body L xV wh oV wh sB wh sH wh sO wh cc0_scoped0 cc0_scoped1 cc0_scoped2 cc0_scoped3 v2 v14 4294967295#32 0#32 4294967295#32 0#32 0#32 100#32 k acc)
      (invS d L (fun k => BitVec.ofNat 32 (∑ x : Fin 16, N (2048 * 1 + 16 * k + x.val))) f (k.val + 1)) := by
  obtain ⟨a0, a1, a2, a3⟩ := acc
  unfold invS k0_t9_body
  simp only [Prog.lift, Prog.bind_op, Prog.bind_ret, Prog.pure_eq_ret]
  iintro ⟨%hacc, HH⟩
  iapply (wp_load 𝒱₀ (tt d L) none Set.univ (m := sH) (S := Finset.univ) (Finset.subset_univ _)) $$ HH; iintro HH
  rw [wp_ret]; imodintro
  isplitr; swap; · iexact HH
  ipureintro
  have hrow := row_last f N hf (2048 * 1 + 16 * k.val) (k0_off9 k) (by rw [k0_off9_eq]; show 16 * k.val + 2048 = 2048 * 1 + 16 * k.val; omega) (k0_off9_inb k)
  rw [top2, ← hacc]
  unfold top2Step k0_pay8
  rw [← hrow]

theorem step10 (f : Vec F S6144 .i32) (N : ℕ → ℕ) (hf : ∀ j, (f j : BitVec 32) = BitVec.ofNat 32 (N (j 0).val)) (v2 : IVec S16 32) (v14 : BitVec 32) (k : Fin k0_t10_loop.trips) (acc : W4) :
    invS d L (fun k => BitVec.ofNat 32 (∑ x : Fin 16, N (2048 * 2 + 16 * k + x.val))) f k acc
      ⊢ wp frame (wpE (defs₀ (F := F)) 𝒱₀ (tt d L) none) Set.univ
      (k0_t10_body L xV wh oV wh sB wh sH wh sO wh cc0_scoped0 cc0_scoped1 cc0_scoped2 cc0_scoped3 v2 v14 4294967295#32 0#32 4294967295#32 0#32 0#32 100#32 k acc)
      (invS d L (fun k => BitVec.ofNat 32 (∑ x : Fin 16, N (2048 * 2 + 16 * k + x.val))) f (k.val + 1)) := by
  obtain ⟨a0, a1, a2, a3⟩ := acc
  unfold invS k0_t10_body
  simp only [Prog.lift, Prog.bind_op, Prog.bind_ret, Prog.pure_eq_ret]
  iintro ⟨%hacc, HH⟩
  iapply (wp_load 𝒱₀ (tt d L) none Set.univ (m := sH) (S := Finset.univ) (Finset.subset_univ _)) $$ HH; iintro HH
  rw [wp_ret]; imodintro
  isplitr; swap; · iexact HH
  ipureintro
  have hrow := row_last f N hf (2048 * 2 + 16 * k.val) (k0_off10 k) (by rw [k0_off10_eq]; show 16 * k.val + 4096 = 2048 * 2 + 16 * k.val; omega) (k0_off10_inb k)
  rw [top2, ← hacc]
  unfold top2Step k0_pay9
  rw [← hrow]

end Tile

end Cert.Proof.KI

end
-- ==== Proof.IdealTile.lean ====
/-
  One task of the kernel: the blocks of the task's image copied in and counted, channel by channel, the three scans, and the
  sixteen lanes copied out to the task's row of the peaks.
-/
module

public import proofs.«01_k».proof.Proof.IdealLoops
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen Cert.Proof.Hist

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S32x3x512x512 EltTy.f32)
local notation "oV" => (Memref.whole Cert.KernelIdeal.main_v0_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S64x512 EltTy.f32)
local notation "sH" => (Memref.whole Cert.KernelIdeal.cc0_scratch1 : Memref Cert.KernelIdeal.sig Kind.scVector Space.vmem Cert.KernelIdeal.S6144 EltTy.i32)
local notation "sO" => (Memref.whole Cert.KernelIdeal.cc0_scratch2 : Memref Cert.KernelIdeal.sig Kind.scVector Space.vmem Cert.KernelIdeal.S16 EltTy.f32)
local notation "wh" => (Memref.isWhole_whole _)

variable [FloatOps F]

section Tile

variable (d : Dev nD) (L : grid0.Coords)

/-- The image the task works on. -/
def wL (L : grid0.Coords) : Fin 32 :=
  ⟨2 * (L 1).val + (L 0).val, by have h0 : (L 0).val < 2 := (L 0).isLt; have h1 : (L 1).val < 16 := (L 1).isLt; omega⟩

/-- The operand, held at a share, and what a loop of copies leaves of the task's waits. -/
abbrev xPts (q : PosShare TreeShare) (lab : Vec F S32x3x512x512 .f32) : sProp 𝕄 := (xV).view.loc (tt d L) ↦{q} lab

/-- A loop of copies and adds over channel `ch`: before trip `k` the histogram holds `h` and the adds of the blocks before. -/
def invC (sem : DmaSem sig) (pay : Vec F S1x16 .f32 → IVec S16 32) (ch : Fin 3) (q : PosShare TreeShare) (lab : Vec F S32x3x512x512 .f32)
    (h : Vec F S6144 .i32) (O : CellTallies nD τ sig (HIx 1)) (W : Waits sig (HIx 1)) (k : ℕ) (_ : BitVec 32) : sProp 𝕄 :=
  iprop(Transfers.MayWaits (tt d L) (default : HIx 1) O ∗ xPts d L q lab ∗ (∃ B : Vec F S64x512 .f32, bPts d L B)
    ∗ (∃ f : Vec F S6144 .i32, ⌜∀ j, (f j : BitVec 32) = h j + BitVec.ofNat 32 (cntC pay lab (wL L) ch k (j 0).val)⌝ ∗ hPts d L f)
    ∗ semVal (tt d L, SemLoc.dma sem) 0
    ∗ ∃ W', ⌜∀ p ∈ W', p ∈ W ∨ p.2 = none⌝ ∗ owes (tt d L) O W')

omit [FloatOps F] in
/-- A block of the operand as the copy reads it. -/
theorem block_read (lab : Vec F S32x3x512x512 .f32) (w : Fin 32) (ch : Fin 3) (c : ℕ) (hc : c < 8) (off : Fin 4 → ℕ)
    (hoff : off = ![w.val, ch.val, 64 * c, 0]) (hb : ∀ a, off a + S1x1x64x512.size a ≤ S32x3x512x512.size a) :
    (((xV).slice (Rect.unit (s := S32x3x512x512) off S1x1x64x512.size hb) (fun _ => rfl)).squeeze S64x512
      squeezes_S1x1x64x512_S64x512).view.read (Elt F) lab = blockOf lab w ch c := by
  subst hoff
  funext x
  have hx0 : (x 0).val < 64 := (x 0).isLt
  have hx1 : (x 1).val < 512 := (x 1).isLt
  have he : Shape.reshapeEquiv (s := S1x1x64x512) squeezes_S1x1x64x512_S64x512.numel_eq x = ix4 (0 : Fin 1) (0 : Fin 1) (⟨(x 0).val, hx0⟩ : Fin 64) (⟨(x 1).val, hx1⟩ : Fin 512) := by
    refine Shape.reshapeEquiv_eq_of_rowMajor _ ?_
    rw [Shape.rowMajor_val_four, Shape.rowMajor_val_two]
    show ((0 * 1 + 0) * 64 + (x 0).val) * 512 + (x 1).val = (x 0).val * 512 + (x 1).val
    omega
  have h1 : (((xV).slice (Rect.unit (s := S32x3x512x512) ![w.val, ch.val, 64 * c, 0] S1x1x64x512.size hb) (fun _ => rfl)).squeeze S64x512
      squeezes_S1x1x64x512_S64x512).view.read (Elt F) lab x
      = lab ((Rect.unit (s := S32x3x512x512) ![w.val, ch.val, 64 * c, 0] S1x1x64x512.size hb).emb
          (Shape.reshapeEquiv (s := S1x1x64x512) squeezes_S1x1x64x512_S64x512.numel_eq x)) := rfl
  rw [h1, he]
  refine congrArg lab ?_
  funext a; refine Fin.ext ?_
  match a with
  | 0 => show w.val + 1 * 0 = w.val; omega
  | 1 => show ch.val + 1 * 0 = ch.val; omega
  | 2 => show 64 * c + 1 * (x 0).val = (64 * c + (x 0).val) % 512; omega
  | 3 => show 0 + 1 * (x 1).val = (x 1).val; omega

omit [FloatOps F] in
theorem bWrite (B w : Vec F S64x512 .f32) : (sB).view.write (Elt F) B w Finset.univ = w := View.write_whole_univ cc0_scratch0 B w

theorem step2 (q : PosShare TreeShare) (lab : Vec F S32x3x512x512 .f32) (h : Vec F S6144 .i32) (O : CellTallies nD τ sig (HIx 1)) (W : Waits sig (HIx 1))
    (k : Fin k0_t2_loop.trips) (acc : BitVec 32) :
    invC d L cc0_scoped0.sem k0_pay4 0 q lab h O W k acc ⊢ wp frame (wpE (defs₀ (F := F)) 𝒱₀ (tt d L) none) Set.univ
      (k0_t2_body L xV wh oV wh sB wh sH wh sO wh cc0_scoped0 cc0_scoped1 cc0_scoped2 cc0_scoped3 k acc)
      (invC d L cc0_scoped0.sem k0_pay4 0 q lab h O W (k.val + 1)) := by
  have hk : k.val < 8 := k.isLt
  unfold invC k0_t2_body
  iintro ⟨Hmw, Hx, ⟨%B, HB⟩, ⟨%f, %hf, HH⟩, Hsem, %W', %hW', HO⟩
  sl_exec (disch := exact View.amount_pos _ _ (show 0 < S64x512.numel by decide))
  have hB : (sB).view.write (Elt F) B (step2.sl.dma0 L lab k) Finset.univ = blockOf lab (wL L) 0 k.val :=
    (bWrite _ _).trans (block_read lab (wL L) 0 k.val hk (k0_off2 L k) (k0_off2_eq L k) (k0_off2_inb L k))
  rw [hB]
  iapply (Scf.wp_for_bind _ _ _ _ _ _ _ _ _ (invA d L k0_pay4 (blockOf lab (wL L) 0 k.val) f)
    (fun t a => step3 d L (blockOf lab (wL L) 0 k.val) f t a)) $$ [HB HH]
  · unfold invA
    isplitl [HB]; · iexact HB
    iexists f; isplitr
    · ipureintro; intro j; simp [cntB]
    · iexact HH
  iintro %_ HI
  unfold invA
  icases HI with ⟨HB, %g, %hg, HH⟩
  sl_step
  isplitl [Hmw]; · iexact Hmw
  isplitl [Hx]; · iexact Hx
  isplitl [HB]; · iexists _; iexact HB
  isplitl [HH]
  · iexists g; isplitr
    · ipureintro; intro j
      have h2048 : Scf.trips k0_t3_loop.lb k0_t3_loop.ub k0_t3_loop.st = 2048 := by decide
      rw [hg, hf, h2048, BitVec.add_assoc, ← ofNat_add, cntC, cntC, Finset.sum_range_succ]
    · iexact HH
  isplitl [Hsem]; · iexact Hsem
  iexists (insert (SemLoc.dma cc0_scoped0.sem, (default : HIx 1)) W'); isplitr
  · ipureintro; intro p hp
    rcases Finset.mem_insert.mp hp with hp | hp
    · exact .inr (hp ▸ rfl)
    · exact hW' p hp
  · iexact HO

theorem step4 (q : PosShare TreeShare) (lab : Vec F S32x3x512x512 .f32) (h : Vec F S6144 .i32) (O : CellTallies nD τ sig (HIx 1)) (W : Waits sig (HIx 1))
    (k : Fin k0_t4_loop.trips) (acc : BitVec 32) :
    invC d L cc0_scoped1.sem k0_pay5 1 q lab h O W k acc ⊢ wp frame (wpE (defs₀ (F := F)) 𝒱₀ (tt d L) none) Set.univ
      (k0_t4_body L xV wh oV wh sB wh sH wh sO wh cc0_scoped0 cc0_scoped1 cc0_scoped2 cc0_scoped3 k acc)
      (invC d L cc0_scoped1.sem k0_pay5 1 q lab h O W (k.val + 1)) := by
  have hk : k.val < 8 := k.isLt
  unfold invC k0_t4_body
  iintro ⟨Hmw, Hx, ⟨%B, HB⟩, ⟨%f, %hf, HH⟩, Hsem, %W', %hW', HO⟩
  sl_exec (disch := exact View.amount_pos _ _ (show 0 < S64x512.numel by decide))
  have hB : (sB).view.write (Elt F) B (step4.sl.dma0 L lab k) Finset.univ = blockOf lab (wL L) 1 k.val :=
    (bWrite _ _).trans (block_read lab (wL L) 1 k.val hk (k0_off4 L k) (k0_off4_eq L k) (k0_off4_inb L k))
  rw [hB]
  iapply (Scf.wp_for_bind _ _ _ _ _ _ _ _ _ (invA d L k0_pay5 (blockOf lab (wL L) 1 k.val) f)
    (fun t a => step5 d L (blockOf lab (wL L) 1 k.val) f t a)) $$ [HB HH]
  · unfold invA
    isplitl [HB]; · iexact HB
    iexists f; isplitr
    · ipureintro; intro j; simp [cntB]
    · iexact HH
  iintro %_ HI
  unfold invA
  icases HI with ⟨HB, %g, %hg, HH⟩
  sl_step
  isplitl [Hmw]; · iexact Hmw
  isplitl [Hx]; · iexact Hx
  isplitl [HB]; · iexists _; iexact HB
  isplitl [HH]
  · iexists g; isplitr
    · ipureintro; intro j
      have h2048 : Scf.trips k0_t5_loop.lb k0_t5_loop.ub k0_t5_loop.st = 2048 := by decide
      rw [hg, hf, h2048, BitVec.add_assoc, ← ofNat_add, cntC, cntC, Finset.sum_range_succ]
    · iexact HH
  isplitl [Hsem]; · iexact Hsem
  iexists (insert (SemLoc.dma cc0_scoped1.sem, (default : HIx 1)) W'); isplitr
  · ipureintro; intro p hp
    rcases Finset.mem_insert.mp hp with hp | hp
    · exact .inr (hp ▸ rfl)
    · exact hW' p hp
  · iexact HO

theorem step6 (q : PosShare TreeShare) (lab : Vec F S32x3x512x512 .f32) (h : Vec F S6144 .i32) (O : CellTallies nD τ sig (HIx 1)) (W : Waits sig (HIx 1))
    (k : Fin k0_t6_loop.trips) (acc : BitVec 32) :
    invC d L cc0_scoped2.sem k0_pay6 2 q lab h O W k acc ⊢ wp frame (wpE (defs₀ (F := F)) 𝒱₀ (tt d L) none) Set.univ
      (k0_t6_body L xV wh oV wh sB wh sH wh sO wh cc0_scoped0 cc0_scoped1 cc0_scoped2 cc0_scoped3 k acc)
      (invC d L cc0_scoped2.sem k0_pay6 2 q lab h O W (k.val + 1)) := by
  have hk : k.val < 8 := k.isLt
  unfold invC k0_t6_body
  iintro ⟨Hmw, Hx, ⟨%B, HB⟩, ⟨%f, %hf, HH⟩, Hsem, %W', %hW', HO⟩
  sl_exec (disch := exact View.amount_pos _ _ (show 0 < S64x512.numel by decide))
  have hB : (sB).view.write (Elt F) B (step6.sl.dma0 L lab k) Finset.univ = blockOf lab (wL L) 2 k.val :=
    (bWrite _ _).trans (block_read lab (wL L) 2 k.val hk (k0_off6 L k) (k0_off6_eq L k) (k0_off6_inb L k))
  rw [hB]
  iapply (Scf.wp_for_bind _ _ _ _ _ _ _ _ _ (invA d L k0_pay6 (blockOf lab (wL L) 2 k.val) f)
    (fun t a => step7 d L (blockOf lab (wL L) 2 k.val) f t a)) $$ [HB HH]
  · unfold invA
    isplitl [HB]; · iexact HB
    iexists f; isplitr
    · ipureintro; intro j; simp [cntB]
    · iexact HH
  iintro %_ HI
  unfold invA
  icases HI with ⟨HB, %g, %hg, HH⟩
  sl_step
  isplitl [Hmw]; · iexact Hmw
  isplitl [Hx]; · iexact Hx
  isplitl [HB]; · iexists _; iexact HB
  isplitl [HH]
  · iexists g; isplitr
    · ipureintro; intro j
      have h2048 : Scf.trips k0_t7_loop.lb k0_t7_loop.ub k0_t7_loop.st = 2048 := by decide
      rw [hg, hf, h2048, BitVec.add_assoc, ← ofNat_add, cntC, cntC, Finset.sum_range_succ]
    · iexact HH
  isplitl [Hsem]; · iexact Hsem
  iexists (insert (SemLoc.dma cc0_scoped2.sem, (default : HIx 1)) W'); isplitr
  · ipureintro; intro p hp
    rcases Finset.mem_insert.mp hp with hp | hp
    · exact .inr (hp ▸ rfl)
    · exact hW' p hp
  · iexact HO

/-- What the task holds while it counts. -/
def res (q : PosShare TreeShare) (lab : Vec F S32x3x512x512 .f32) (O : CellTallies nD τ sig (HIx 1)) (W : Waits sig (HIx 1)) : sProp 𝕄 :=
  iprop(Transfers.MayWaits (tt d L) (default : HIx 1) O ∗ xPts d L q lab ∗ (∃ B : Vec F S64x512 .f32, bPts d L B)
    ∗ semVal (tt d L, SemLoc.dma cc0_scoped0.sem) 0 ∗ semVal (tt d L, SemLoc.dma cc0_scoped1.sem) 0
    ∗ semVal (tt d L, SemLoc.dma cc0_scoped2.sem) 0
    ∗ ∃ W', ⌜∀ p ∈ W', p ∈ W ∨ p.2 = none⌝ ∗ owes (tt d L) O W')

/-- The first part: the histogram zeroed, the three channels counted, the first scan. -/
theorem part1 (q : PosShare TreeShare) (lab : Vec F S32x3x512x512 .f32) (O : CellTallies nD τ sig (HIx 1)) (W : Waits sig (HIx 1)) :
    iprop(res d L q lab O W ∗ ∃ h : Vec F S6144 .i32, hPts d L h) ⊢ wp frame (wpE (defs₀ (F := F)) 𝒱₀ (tt d L) none) Set.univ
      (k0_part1 L xV wh oV wh sB wh sH wh sO wh cc0_scoped0 cc0_scoped1 cc0_scoped2 cc0_scoped3)
      (fun r => iprop(⌜r = ⟨iota .scVector S16 32 [0] iota_S16_d0_w32_scVector, (scan2 lab (wL L) 0).2.2.2, 4294967295#32, 0#32, 4294967295#32, 0#32, 0#32, 100#32⟩⌝
        ∗ res d L q lab O W ∗ ∃ f : Vec F S6144 .i32, ⌜∀ j, (f j : BitVec 32) = BitVec.ofNat 32 (hist lab (wL L) (j 0).val)⌝ ∗ hPts d L f)) := by
  rw [k0_part1_eq_skeleton]
  unfold k0_part1_skel res
  iintro ⟨⟨Hmw, Hx, HB, Hs0, Hs1, Hs2, HO⟩, %h0, HH⟩
  iapply (Scf.wp_for_bind _ _ _ _ _ _ _ _ _ (inv1 d L) (fun t a => step1 d L t a)) $$ [HH]
  · unfold inv1
    iexists h0; isplitr
    · ipureintro; intro j hj; omega
    · iexact HH
  iintro %_ HI
  unfold inv1
  icases HI with ⟨%z, %hz, HH⟩
  iapply (Scf.wp_for_bind _ _ _ _ _ _ _ _ _ (invC d L cc0_scoped0.sem k0_pay4 0 q lab z O W)
    (fun t a => step2 d L q lab z O W t a)) $$ [Hmw Hx HB HH Hs0 HO]
  · unfold invC
    isplitl [Hmw]; · iexact Hmw
    isplitl [Hx]; · iexact Hx
    isplitl [HB]; · iexact HB
    isplitl [HH]
    · iexists z; isplitr
      · ipureintro; intro j; simp [cntC]
      · iexact HH
    isplitl [Hs0]; · iexact Hs0
    iexact HO
  iintro %_ HI
  unfold invC
  icases HI with ⟨Hmw, Hx, HB, ⟨%f1, %hf1, HH⟩, Hs0, HO⟩
  iapply (Scf.wp_for_bind _ _ _ _ _ _ _ _ _ (invC d L cc0_scoped1.sem k0_pay5 1 q lab f1 O W)
    (fun t a => step4 d L q lab f1 O W t a)) $$ [Hmw Hx HB HH Hs1 HO]
  · unfold invC
    isplitl [Hmw]; · iexact Hmw
    isplitl [Hx]; · iexact Hx
    isplitl [HB]; · iexact HB
    isplitl [HH]
    · iexists f1; isplitr
      · ipureintro; intro j; simp [cntC]
      · iexact HH
    isplitl [Hs1]; · iexact Hs1
    iexact HO
  iintro %_ HI
  unfold invC
  icases HI with ⟨Hmw, Hx, HB, ⟨%f2, %hf2, HH⟩, Hs1, HO⟩
  iapply (Scf.wp_for_bind _ _ _ _ _ _ _ _ _ (invC d L cc0_scoped2.sem k0_pay6 2 q lab f2 O W)
    (fun t a => step6 d L q lab f2 O W t a)) $$ [Hmw Hx HB HH Hs2 HO]
  · unfold invC
    isplitl [Hmw]; · iexact Hmw
    isplitl [Hx]; · iexact Hx
    isplitl [HB]; · iexact HB
    isplitl [HH]
    · iexists f2; isplitr
      · ipureintro; intro j; simp [cntC]
      · iexact HH
    isplitl [Hs2]; · iexact Hs2
    iexact HO
  iintro %_ HI
  unfold invC
  icases HI with ⟨Hmw, Hx, HB, ⟨%f3, %hf3, HH⟩, Hs2, HO⟩
  have h8a : Scf.trips k0_t2_loop.lb k0_t2_loop.ub k0_t2_loop.st = 8 := by decide
  have h384 : Scf.trips k0_t1_loop.lb k0_t1_loop.ub k0_t1_loop.st = 384 := by decide
  have h100 : Scf.trips k0_t8_loop.lb k0_t8_loop.ub k0_t8_loop.st = 100 := by decide
  have hf : ∀ j, (f3 j : BitVec 32) = BitVec.ofNat 32 (hist lab (wL L) (j 0).val) := by
    intro j
    have hj : (j 0).val < 6144 := (j 0).isLt
    rw [hf3, hf2, hf1, hz j (by rw [h384]; omega), h8a, BitVec.zero_add, ← ofNat_add, ← ofNat_add, hist]
  iapply (Scf.wp_for_bind _ _ _ _ _ _ _ _ _ (invS d L (fun k => BitVec.ofNat 32 (binc lab (wL L) 0 k)) f3)
    (fun t a => step8 d L f3 (hist lab (wL L)) hf t a)) $$ [HH]
  · unfold invS
    isplitr
    · ipureintro; rfl
    · iexact HH
  iintro %acc HI
  unfold invS
  icases HI with ⟨%hacc, HH⟩
  obtain ⟨a0, a1, a2, a3⟩ := acc
  dsimp only
  rw [Prog.pure_eq_ret, wp_ret]; imodintro
  isplitr
  · ipureintro
    rw [h100] at hacc
    rw [scan2, ← hacc]
  isplitr [HH]
  · isplitl [Hmw]; · iexact Hmw
    isplitl [Hx]; · iexact Hx
    isplitl [HB]; · iexact HB
    isplitl [Hs0]; · iexact Hs0
    isplitl [Hs1]; · iexact Hs1
    isplitl [Hs2]; · iexact Hs2
    iexact HO
  iexists f3; isplitr
  · ipureintro; exact hf
  · iexact HH

/-- The second part: the two other scans, and the values written out. -/
theorem part2 (lab : Vec F S32x3x512x512 .f32) (f : Vec F S6144 .i32)
    (hf : ∀ j, (f j : BitVec 32) = BitVec.ofNat 32 (hist lab (wL L) (j 0).val)) (v2 : IVec S16 32) (v14 : BitVec 32) :
    hPts d L f ⊢ wp frame (wpE (defs₀ (F := F)) 𝒱₀ (tt d L) none) Set.univ
      (k0_part2 L xV wh oV wh sB wh sH wh sO wh cc0_scoped0 cc0_scoped1 cc0_scoped2 cc0_scoped3 v2 v14 4294967295#32 0#32 4294967295#32 0#32 0#32 100#32)
      (fun r => iprop(⌜r = ⟨k0_pay10 (F := F) v14, k0_pay11 v2, k0_pay12 (F := F) v2 (scan2 lab (wL L) 1).2.1 (scan2 lab (wL L) 2).2.1⟩⌝ ∗ hPts d L f)) := by
  rw [k0_part2_eq_skeleton]
  unfold k0_part2_skel
  have h9 : Scf.trips k0_t9_loop.lb k0_t9_loop.ub k0_t9_loop.st = 100 := by decide
  have h10 : Scf.trips k0_t10_loop.lb k0_t10_loop.ub k0_t10_loop.st = 100 := by decide
  iintro HH
  iapply (Scf.wp_for_bind _ _ _ _ _ _ _ _ _ (invS d L (fun k => BitVec.ofNat 32 (binc lab (wL L) 1 k)) f)
    (fun t a => step9 d L f (hist lab (wL L)) hf v2 v14 t a)) $$ [HH]
  · unfold invS
    isplitr
    · ipureintro; rfl
    · iexact HH
  iintro %acc HI
  unfold invS
  icases HI with ⟨%hacc, HH⟩
  iapply (Scf.wp_for_bind _ _ _ _ _ _ _ _ _ (invS d L (fun k => BitVec.ofNat 32 (binc lab (wL L) 2 k)) f)
    (fun t a => step10 d L f (hist lab (wL L)) hf v2 v14 t a)) $$ [HH]
  · unfold invS
    isplitr
    · ipureintro; rfl
    · iexact HH
  iintro %acc' HI
  unfold invS
  icases HI with ⟨%hacc', HH⟩
  obtain ⟨a0, a1, a2, a3⟩ := acc
  obtain ⟨b0, b1, b2, b3⟩ := acc'
  dsimp only
  rw [Prog.pure_eq_ret, wp_ret]; imodintro
  isplitr; swap; · iexact HH
  ipureintro
  rw [h9] at hacc; rw [h10] at hacc'
  rw [scan2, scan2, ← hacc, ← hacc']

end Tile

end Cert.Proof.KI

end
-- ==== Proof.IdealBody.lean ====
/-
  One whole task: its own buffers and semaphores taken up, the counting and the scans run, and the sixteen lanes copied out
  to the task's row of the peaks.
-/
module

public import proofs.«01_k».proof.Proof.IdealTile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ShareLeaves

@[expose] public section

noncomputable section

namespace Cert.Proof.KI

open Cert.KernelIdeal Cert.KernelIdeal.Gen Cert.Proof.Hist

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S32x3x512x512 EltTy.f32)
local notation "oV" => (Memref.whole Cert.KernelIdeal.main_v0_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S64x512 EltTy.f32)
local notation "sH" => (Memref.whole Cert.KernelIdeal.cc0_scratch1 : Memref Cert.KernelIdeal.sig Kind.scVector Space.vmem Cert.KernelIdeal.S6144 EltTy.i32)
local notation "sO" => (Memref.whole Cert.KernelIdeal.cc0_scratch2 : Memref Cert.KernelIdeal.sig Kind.scVector Space.vmem Cert.KernelIdeal.S16 EltTy.f32)
local notation "wh" => (Memref.isWhole_whole _)

variable [FloatOps F]

/-! ## The rows of the peaks -/

theorem rowsDiv : 32 ∣ S32x16.size 0 := ⟨1, rfl⟩
/-- Row `w` of the peaks, and its elements. -/
abbrev rowR (w : Fin 32) : Rect S32x16 := Rect.part (s := S32x16) (a₀ := 0) rowsDiv w
abbrev rowS (w : Fin 32) : Finset S32x16.Idx := (rowR w).set

/-- The operand and the peaks as locations of device `d`. -/
abbrev labLoc (d : Dev nD) : Loc nD τ sig := (SparseCore.T d).loc main_arg0
abbrev pkLoc (d : Dev nD) : Loc nD τ sig := (SparseCore.T d).loc main_v0

/-- Row `w` of the peaks held at `f`. -/
abbrev pkPts (d : Dev nD) (w : Fin 32) (f : Vec F S32x16 .f32) : sProp 𝕄 := pkLoc d ↦[rowS w]{fullShare} f

section Tile

variable (d : Dev nD) (L : grid0.Coords)

/-- The row the task copies to, as its body spells it. -/
abbrev rowK (L : grid0.Coords) : Rect S32x16 := Rect.unit (s := S32x16) (k0_off11 L) S1x16.size (k0_off11_inb L)
abbrev rowM (L : grid0.Coords) : Memref sig .scVector .hbm S16 .f32 := ((oV).slice (rowK L) (fun _ => rfl)).squeeze S16 squeezes_S1x16_S16

omit [FloatOps F] in
theorem rowK_eq : rowK L = rowR (wL L) := by
  unfold rowK rowR Rect.part Rect.block
  congr 1 <;> funext a
  · rw [k0_off11_eq]
    match a with
    | 0 => simp [Shape.partIx, Shape.partSize, wL]
    | 1 => simp [Shape.partIx, Shape.partSize]
  · match a with
    | 0 => simp [Shape.partSize]
    | 1 => simp [Shape.partSize]

omit [FloatOps F] in
theorem rowM_set : (rowM L).view.set = rowS (wL L) := by
  show (((oV).view.slice (rowK L)).reshape S16 squeezes_S1x16_S16.numel_eq).set = (rowR (wL L)).set
  rw [View.set_reshape, View.set_slice]
  exact Finset.map_refl.trans (congrArg (fun r : Rect S32x16 => r.set) (rowK_eq L))

omit [FloatOps F] in
theorem rowM_pts (f : Vec F S32x16 .f32) :
    ((rowM L).view.loc (tt d L) ↦[(rowM L).view.set]{fullShare} f : sProp 𝕄) = pkPts d (wL L) f := by
  rw [rowM_set]

omit [FloatOps F] in
/-- Lane `x` of the view is lane `x` of the task's row. -/
theorem rowM_emb (x : S16.Idx) : (rowM L).view.emb x = ix2 (wL L) (x 0) := by
  have hx0 : (x 0).val < 16 := (x 0).isLt
  have he : Shape.reshapeEquiv (s := S1x16) squeezes_S1x16_S16.numel_eq x = ix2 (0 : Fin 1) (⟨(x 0).val, hx0⟩ : Fin 16) := by
    refine Shape.reshapeEquiv_eq_of_rowMajor _ ?_
    rw [Shape.rowMajor_val_two, Shape.rowMajor_val_one]
    show 0 * 16 + (x 0).val = (x 0).val
    omega
  have h1 : (rowM L).view.emb x = (rowK L).emb (Shape.reshapeEquiv (s := S1x16) squeezes_S1x16_S16.numel_eq x) := rfl
  rw [h1, he]
  funext a; refine Fin.ext ?_
  refine (congrArg (· + 1 * ((ix2 (0 : Fin 1) (⟨(x 0).val, hx0⟩ : Fin 16)) a).val) (congrFun (k0_off11_eq L) a)).trans ?_
  match a with
  | 0 => show 2 * (L 1).val + (L 0).val + 1 * 0 = 2 * (L 1).val + (L 0).val; omega
  | 1 => show 0 + 1 * (x 0).val = (x 0).val; omega

/-- The lanes written to the task's row are that row of the peaks. -/
theorem row_written (lab : Vec F S32x3x512x512 .f32) (g : Vec F S32x16 .f32) (v : Vec F S16 .f32) (hv : v = outRow lab (wL L)) :
    (pkLoc d ↦[(rowM L).view.set]{fullShare} ((rowM L).view.writes (Elt F) g [⟨Rect.whole S16, v⟩]) : sProp 𝕄)
      = pkPts d (wL L) (PK lab) := by
  subst hv
  rw [pkPts, ← rowM_set]
  refine pointsTo_congr fun i hi => ?_
  obtain ⟨x, -, rfl⟩ := Finset.mem_map.mp hi
  rw [show (rowM L).view.writes (Elt F) g [⟨Rect.whole S16, outRow lab (wL L)⟩] = (rowM L).view.write (Elt F) g (outRow lab (wL L)) Finset.univ from
    (View.write_univ_eq_writes_whole (rowM L).view g [] (outRow lab (wL L))).symm]
  refine (View.write_emb_of_mem (v := (rowM L).view) (Val := Elt F) g _ (Finset.mem_univ x)).trans ?_
  refine ((congrArg (PK lab) (rowM_emb L x)).trans ?_).symm
  show outRow lab (wL L) (ix1 (x 0)) = outRow lab (wL L) x
  exact congrArg _ (funext fun a => by rw [Subsingleton.elim (α := Fin 1) a 0])

/-- The task's four transfer semaphores. -/
abbrev dcell (d : Dev nD) (L : grid0.Coords) (s : DmaSem sig) : GSem nD τ sig := (tt d L, .dma s)

omit [FloatOps F] in
theorem ownSems0_V :
    (ownSems0 (tt d L) : sProp 𝕄)
      = iprop(semVal (dcell d L cc0_scoped0.sem) 0 ∗ semVal (dcell d L cc0_scoped1.sem) 0 ∗ semVal (dcell d L cc0_scoped2.sem) 0
          ∗ semVal (dcell d L cc0_scoped3.sem) 0
          ∗ bigSep (((((ownCells (tt d L)).erase (dcell d L cc0_scoped0.sem)).erase (dcell d L cc0_scoped1.sem)).erase (dcell d L cc0_scoped2.sem)).erase
              (dcell d L cc0_scoped3.sem)) fun g => semVal g 0) := by
  unfold SparseCore.Cfg.ownSems0
  rw [SparseCore.bigSep_erase' ((mem_ownCells (g := dcell d L cc0_scoped0.sem)).mpr ⟨rfl, by
      show (SemLoc.dma cc0_scoped0.sem : SemLoc sig).isScoped .scVector = true; decide⟩),
    SparseCore.bigSep_erase' (Finset.mem_erase.mpr ⟨by simp [dcell]; decide, (mem_ownCells (g := dcell d L cc0_scoped1.sem)).mpr ⟨rfl, by
      show (SemLoc.dma cc0_scoped1.sem : SemLoc sig).isScoped .scVector = true; decide⟩⟩),
    SparseCore.bigSep_erase' (Finset.mem_erase.mpr ⟨by simp [dcell]; decide, Finset.mem_erase.mpr ⟨by simp [dcell]; decide,
      (mem_ownCells (g := dcell d L cc0_scoped2.sem)).mpr ⟨rfl, by show (SemLoc.dma cc0_scoped2.sem : SemLoc sig).isScoped .scVector = true; decide⟩⟩⟩),
    SparseCore.bigSep_erase' (Finset.mem_erase.mpr ⟨by simp [dcell]; decide, Finset.mem_erase.mpr ⟨by simp [dcell]; decide,
      Finset.mem_erase.mpr ⟨by simp [dcell]; decide, (mem_ownCells (g := dcell d L cc0_scoped3.sem)).mpr ⟨rfl, by
        show (SemLoc.dma cc0_scoped3.sem : SemLoc sig).isScoped .scVector = true; decide⟩⟩⟩⟩)]

omit [FloatOps F] in
/-- A task's own buffers are its three scratches, each at some contents, and the rest. -/
theorem ownBufs_V :
    (ownBufs (tt d L) : sProp 𝕄)
      = iprop((∃ f, (tt d L).loc cc0_scratch0 ↦{fullShare} f) ∗ (∃ f, (tt d L).loc cc0_scratch1 ↦{fullShare} f)
          ∗ (∃ f, (tt d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

omit [FloatOps F] in
theorem oWrite (B w : Vec F S16 .f32) : ((sO).access (Rect.unit (s := S16) ![0] S16.size inb_S16_S16_0)).write (Elt F) B w Finset.univ = w :=
  Memref.write_access_unit_zero_univ (Elt F) cc0_scratch2 (by decide) _ B w

/-- The task: its operand kept at its share, its row of the peaks written. -/
theorem tile_body (hF : (K (F := F)).Facts) (q : PosShare TreeShare) (lab : Vec F S32x3x512x512 .f32) (g0 : Vec F S32x16 .f32)
    (O : CellTallies nD τ sig (HIx 1)) (W : Waits sig (HIx 1)) (hO : ∀ g, O g none = 0) :
    iprop(levAts (K (F := F)).L (K (F := F)).lev ∗ emp
        ∗ ((labLoc d ↦{q} lab) ∗ pkPts d (wL L) g0)
        ∗ scopedBufs (tt d L) ∗ scopedSems0 (tt d L) ∗ owes (tt d L) O W)
      ⊢ wp frame (wpE (defs₀ (F := F)) 𝒱₀ (tt d L) none) Set.univ
          (cc0__sc_body L xV wh oV wh sB wh sH wh sO wh cc0_scoped0 cc0_scoped1 cc0_scoped2 cc0_scoped3)
          fun _ => iprop(((labLoc d ↦{q} lab) ∗ pkPts d (wL L) (PK lab))
            ∗ scopedBufs (tt d L) ∗ scopedSems0 (tt d L)
            ∗ ∃ W', ⌜∀ p ∈ W', p ∈ W ∨ p.2 = none ∨ p.2 = some (0 : Fin 1)⌝ ∗ owes (tt d L) O W') := by
  rw [(K (F := F)).scopedBufs_V hF d (cV L) (jV L), SparseCore.Cfg.scopedSems0_V (Val := Elt F) d (cV L) (jV L), ownSems0_V, ownBufs_V]
  rw [cc0__sc_body_eq_skeleton]
  unfold cc0__sc_body_skel
  iintro ⟨#Hlv, -, ⟨Hx, Hp⟩, ⟨⟨%f0, Hb0⟩, ⟨%f1, Hb1⟩, ⟨%f2, Hb2⟩, Hbufs⟩, ⟨Hs0, Hs1, Hs2, Hs3, Hsems⟩, HO⟩
  ihave Hmw := (show levAts (K (F := F)).L (K (F := F)).lev ⊢ Transfers.MayWaits (tt d L) (default : HIx 1) O from
    (K (F := F)).mayWaits_none (thr := tt d L) hO) $$ Hlv
  rw [wp_bind]
  iapply (wp_wand_r frame (wpE (defs₀ (F := F)) 𝒱₀ (tt d L) none) Set.univ (p := k0_part1 L xV wh oV wh sB wh sH wh sO wh cc0_scoped0 cc0_scoped1 cc0_scoped2 cc0_scoped3))
  isplitl [Hmw Hx Hb0 Hb1 Hs0 Hs1 Hs2 HO]
  · iapply (part1 d L q lab O W)
    unfold res
    isplitr [Hb1]
    · isplitl [Hmw]; · iexact Hmw
      isplitl [Hx]; · iexact Hx
      isplitl [Hb0]; · iexists f0; iexact Hb0
      isplitl [Hs0]; · iexact Hs0
      isplitl [Hs1]; · iexact Hs1
      isplitl [Hs2]; · iexact Hs2
      iexists W; isplitr
      · ipureintro; intro p hp; exact .inl hp
      · iexact HO
    · iexists f1; iexact Hb1
  iintro %r ⟨%hr, Hres, %f, %hf, Hb1⟩
  subst hr
  dsimp only
  rw [wp_bind]
  iapply (wp_wand_r frame (wpE (defs₀ (F := F)) 𝒱₀ (tt d L) none) Set.univ (p := k0_part2 L xV wh oV wh sB wh sH wh sO wh cc0_scoped0 cc0_scoped1 cc0_scoped2 cc0_scoped3 _ _ _ _ _ _ _ _))
  isplitl [Hb1]
  · iapply (part2 d L lab f hf _ _); iexact Hb1
  iintro %r ⟨%hr, Hb1⟩
  subst hr
  dsimp only
  unfold res
  icases Hres with ⟨Hmw, Hx, ⟨%B, Hb0⟩, Hs0, Hs1, Hs2, %W1, %hW1, HO⟩
  ihave Hp := (Entails.of_eq (rowM_pts (F := F) d L _).symm) $$ Hp
  ihave Hb2 := (show ((tt d L).loc cc0_scratch2 ↦{fullShare} f2 : sProp 𝕄) ⊢ ((sO).view.loc (tt d L) ↦{fullShare} f2 : sProp 𝕄) from Entails.of_eq rfl) $$ Hb2
  sl_exec (disch := exact View.amount_pos _ _ (show 0 < S16.numel by decide))
  sl_step
  isplitl [Hx Hp]
  · isplitl [Hx]; · iexact Hx
    have hv : tile_body.sl.dma2 d L lab f2 = outRow lab (wL L) := by
      unfold tile_body.sl.dma2 tile_body.sl.Hb2_1
      exact oWrite f2 (outRow lab (wL L))
    iapply (Entails.of_eq (row_written d L lab _ _ hv)); iexact Hp
  isplitl [Hb0 Hb1 Hb2 Hbufs]
  · isplitl [Hb0]; · iexists _; iexact Hb0
    isplitl [Hb1]; · iexists _; iexact Hb1
    isplitl [Hb2]; · iexists _; iexact Hb2
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p _
  rcases p.2 with _ | q
  · exact .inr (.inl rfl)
  · exact .inr (.inr (congrArg some (Subsingleton.elim q 0)))

end Tile

end Cert.Proof.KI

end
-- ==== Proof.IdealLaunch.lean ====
/-
  What the launch's handshakes carry — each SparseCore half of every task's share of the operand and its sixteen rows of the
  peaks, each task its share and its row — and the tasks' obligation and the split of a SparseCore's part among its tasks.
-/
module

public import proofs.«01_k».proof.Proof.IdealBody

@[expose] public section

noncomputable section

namespace Cert.Proof.KI

open Cert.KernelIdeal Cert.KernelIdeal.Gen Cert.Proof.Hist

open Idealize.ShloMosaic Idealize.ShloMosaic.ValueIdx Idealize.ShloMosaic.ShareLeaves
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S32x3x512x512 EltTy.f32)
local notation "oV" => (Memref.whole Cert.KernelIdeal.main_v0_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S64x512 EltTy.f32)
local notation "sH" => (Memref.whole Cert.KernelIdeal.cc0_scratch1 : Memref Cert.KernelIdeal.sig Kind.scVector Space.vmem Cert.KernelIdeal.S6144 EltTy.i32)
local notation "sO" => (Memref.whole Cert.KernelIdeal.cc0_scratch2 : Memref Cert.KernelIdeal.sig Kind.scVector Space.vmem Cert.KernelIdeal.S16 EltTy.f32)
local notation "wh" => (Memref.isWhole_whole _)

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tasks' numbers and shares -/

/-- The row of the peaks that task `i` of SparseCore `c` writes. -/
def tw (c : Fin 2) (i : Fin 16) : Fin 32 := ⟨2 * i.val + c.val, by omega⟩

/-- SparseCore `c`'s share of the operand, and task `i`'s of that. -/
abbrev qC (c : Fin 2) : PosShare TreeShare := leaf 1 fullShare c
abbrev qT (c : Fin 2) (i : Fin 16) : PosShare TreeShare := leaf 4 (qC c) i

/-- One task's part: its share of the operand, its row of the peaks at `f`. -/
abbrev taskPts (d : Dev nD) (lab : Vec F S32x3x512x512 .f32) (f : Vec F S32x16 .f32) (c : Fin 2) (i : Fin 16) : sProp 𝕄 :=
  iprop((labLoc d ↦{qT c i} lab) ∗ pkPts d (tw c i) f)
/-- One SparseCore's part: its share of the operand, its tasks' rows of the peaks at `f`. -/
abbrev corePts (d : Dev nD) (lab : Vec F S32x3x512x512 .f32) (f : Vec F S32x16 .f32) (c : Fin 2) : sProp 𝕄 :=
  iprop((labLoc d ↦{qC c} lab) ∗ bigSep Finset.univ fun i : Fin 16 => pkPts d (tw c i) f)

theorem corePts_tasks (d : Dev nD) (lab : Vec F S32x3x512x512 .f32) (f : Vec F S32x16 .f32) (c : Fin 2) :
    (corePts d lab f c : sProp 𝕄) = bigSep Finset.univ fun i : Fin 16 => taskPts d lab f c i := by
  rw [bigSep_sep']
  unfold corePts
  rw [pointsTo_leaves (ℓ := labLoc d) Finset.univ lab 4 (qC c)]
  rfl

/-- The pairs of a SparseCore and a task, numbered by the rows they write. -/
def twEquiv : Fin 2 × Fin 16 ≃ Fin 32 where
  toFun p := tw p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := by
    refine Fin.ext ?_
    show 2 * (w.val / 2) + w.val % 2 = w.val
    omega

/-- The peaks whole are their 32 rows. -/
theorem pk_rows (d : Dev nD) (f : Vec F S32x16 .f32) :
    (pkLoc d ↦{fullShare} f : sProp 𝕄) = bigSep Finset.univ fun w : Fin 32 => pkPts d w f := by
  have hd : ∀ i ∈ (Finset.univ : Finset (Fin 32)), ∀ j ∈ (Finset.univ : Finset (Fin 32)), i ≠ j → Disjoint (rowS i) (rowS j) :=
    fun i _ j _ h => Rect.part_disjoint rowsDiv h
  have hc : (Finset.univ : Finset (Fin 32)).biUnion rowS = Finset.univ := Rect.biUnion_part rowsDiv
  rw [← pointsTo_biUnion Finset.univ (ℓ := pkLoc d) rowS hd, hc]
  try rfl

/-- The operand and the peaks whole are the two SparseCores' parts. -/
theorem cores_join (d : Dev nD) (lab : Vec F S32x3x512x512 .f32) (f : Vec F S32x16 .f32) :
    (bigSep Finset.univ fun c : Fin 2 => (corePts d lab f c : sProp 𝕄))
      = iprop((labLoc d ↦{fullShare} lab) ∗ (pkLoc d ↦{fullShare} f)) := by
  rw [bigSep_sep', pk_rows, bigSep_univ_equiv twEquiv, bigSep_univ_prod, pointsTo_leaves (ℓ := labLoc d) Finset.univ lab 1 fullShare]
  rfl

/-! ## What the handshakes carry -/

variable (m : (ℓ : Loc nD τ sig) → Buf (Elt F) ℓ) (ρ : Dev nD → PrngReg)

/-- The peaks the tasks write on device `d`. -/
abbrev pkVal (d : Dev nD) : Vec F S32x16 .f32 := PK (m (labLoc d))

/-- The one call deals each SparseCore its part and takes it back with the peaks written. -/
def P : (K (F := F)).Pay (nD := nD) (Val := Elt F) (Name := ℕ) (U := UU) where
  st := fun q d c => match q with | 0 => corePts d (m (labLoc d)) (m (pkLoc d)) (Fin.cast nCore_zero c)
  dn := fun q d c => match q with | 0 => corePts d (m (labLoc d)) (pkVal m d) (Fin.cast nCore_zero c)
  go := fun q d c i => match q with
    | 0 => taskPts d (m (labLoc d)) (m (pkLoc d)) (Fin.cast nCore_zero c) (Fin.cast nSub_zero i)
  td := fun q d c i => match q with
    | 0 => taskPts d (m (labLoc d)) (pkVal m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts d (m (labLoc d)) (m (pkLoc d)) (Fin.cast nCore_zero c)))
  dn q d c := match q with
    | 0 => (inferInstance : BI.Storable (upEmb : UEmb _ 𝕄) (corePts d (m (labLoc d)) (pkVal m d) (Fin.cast nCore_zero c)))
  go q d c i := match q with
    | 0 => (inferInstance : BI.Storable (upEmb : UEmb _ 𝕄) (taskPts d (m (labLoc d)) (m (pkLoc d)) (Fin.cast nCore_zero c) (Fin.cast nSub_zero i)))
  td q d c i := match q with
    | 0 => (inferInstance : BI.Storable (upEmb : UEmb _ 𝕄) (taskPts d (m (labLoc d)) (pkVal m d) (Fin.cast nCore_zero c) (Fin.cast nSub_zero i)))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) xV wh oV wh sB wh sH wh sO wh
          cc0_scoped0 cc0_scoped1 cc0_scoped2 cc0_scoped3) ⟨⟩ c s := rfl

/-- A task's row is the row its number names. -/
theorem wL_coordsV (c : Fin (grid0.bound 0)) (s : Fin (grid0.bound 1)) : wL (coordsV c s) = tw c s := Fin.ext (by
  show _ = 2 * s.val + c.val
  unfold wL coordsV
  first | rfl | (simp; omega))

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) hF (qT (Fin.cast nCore_zero c) (Fin.cast nSub_zero i)) (m (labLoc d)) (m (pkLoc d)) O W hO
  rw [wL_coordsV] at h
  exact h

/-! ## The split -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (corePts d (m (labLoc d)) (m (pkLoc d)) (Fin.cast nCore_zero c) : sProp 𝕄) ⊢ |={Set.univ}=> iprop(
      (bigSep Finset.univ fun i : Fin ((K (F := F)).nSub 0) => taskPts d (m (labLoc d)) (m (pkLoc d)) (Fin.cast nCore_zero c) (Fin.cast nSub_zero i))
      ∗ ((bigSep Finset.univ fun i : Fin ((K (F := F)).nSub 0) => taskPts d (m (labLoc d)) (pkVal m d) (Fin.cast nCore_zero c) (Fin.cast nSub_zero i))
          -∗ corePts d (m (labLoc d)) (pkVal m d) (Fin.cast nCore_zero c)))
  rw [bigSep_tasks (F := F) (fun i => taskPts d (m (labLoc d)) (m (pkLoc d)) (Fin.cast nCore_zero c) i),
    bigSep_tasks (F := F) (fun i => taskPts d (m (labLoc d)) (pkVal m d) (Fin.cast nCore_zero c) i),
    ← corePts_tasks, ← corePts_tasks]
  iintro H; imodintro
  isplitl [H]; · iexact H
  iintro H; iexact H

/-- What the call takes, and what it brings back. -/
theorem st0_eq (d : Dev nD) :
    (bigSep Finset.univ fun c : Fin ((K (F := F)).nCore 0) => (P m).st 0 d c)
      = iprop((labLoc d ↦{fullShare} m (labLoc d)) ∗ (pkLoc d ↦{fullShare} m (pkLoc d))) :=
  (bigSep_cores (F := F) fun c => corePts d (m (labLoc d)) (m (pkLoc d)) c).trans (cores_join d _ _)
theorem dn0_eq (d : Dev nD) :
    (bigSep Finset.univ fun c : Fin ((K (F := F)).nCore 0) => (P m).dn 0 d c)
      = iprop((labLoc d ↦{fullShare} m (labLoc d)) ∗ (pkLoc d ↦{fullShare} pkVal m d)) :=
  (bigSep_cores (F := F) fun c => corePts d (m (labLoc d)) (pkVal m d) c).trans (cores_join d _ _)

end Cert.Proof.KI

end
-- ==== Proof.IdealRegion.lean ====
/-
  The grid call of the TensorCore: its body's run, its proof data over any contents of the arrays it reads, and its region, which leaves
  every array as it was but the result's, at `affine`: each element times its row and channel's factor, plus that channel's offset.
-/
module

public import proofs.«01_k».proof.Proof.IdealLaunch
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.ValueKit
public import Idealize.ShloMosaic.Lib.Tactic

@[expose] public section

noncomputable section

namespace Cert.Proof.KI

open Cert.KernelIdeal Cert.KernelIdeal.Gen Cert.Proof.Hist

open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation heldIn)

variable {F : FTy → Type}

local notation "𝕄" => MT nD τ sig (HIx 1) (Elt F) ℕ UU ℕ

variable [FloatOps F]

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable [∀ e, Nonempty (Elt F e)]

/-! ## The body -/

/-- The offsets of the two words a grid point loads: its coordinates. -/
theorem k1_off1_eq (i : grid1.Coords) : k1_off1 i = ![(i 0).val, (i 1).val] := by
  have key : ∀ n < 32, BitVec.toNat (Scalar.indexCast (BitVec.ofNat 32 n)) = n := by decide
  have e0 := key (i 0).val (i 0).isLt
  have e1 := key (i 1).val (Nat.lt_trans (i 1).isLt (by decide))
  unfold k1_off1
  dsimp only
  rw [e0, e1]

/-- The entry of a 32×3 array that a grid point reads. -/
abbrev gx (i : grid1.Coords) : S32x3.Idx := ValueIdx.ix2 (i 0) (i 1)

theorem word_emb (i : grid1.Coords) (x : (Rect.unit (s := S32x3) (k1_off1 i) S1x1.size (k1_off1_inb i)).shape.Idx) :
    (Rect.unit (s := S32x3) (k1_off1 i) S1x1.size (k1_off1_inb i)).emb x = gx i := by
  funext a
  refine Fin.ext ?_
  have hx : (x a).val = 0 := by
    have h := (x a).isLt
    fin_cases a
    · exact Nat.lt_one_iff.mp h
    · exact Nat.lt_one_iff.mp h
  show k1_off1 i a + 1 * (x a).val = _
  rw [hx, k1_off1_eq]
  fin_cases a <;> rfl

/-- From the four staging buffers held, the body runs and leaves the result's at the block times the factor plus the offset, the others as they were. -/
theorem normRun (c : Dev nD) (i : grid1.Coords) (M0 : Memref sig .tc .smem S32x3 .f32) (h0 : M0.IsWhole) (M1 : Memref sig .tc .smem S32x3 .f32) (h1 : M1.IsWhole)
    (M2 : Memref sig .tc .vmem S1x1x512x512 .f32) (h2 : M2.IsWhole) (M3 : Memref sig .tc .vmem S1x1x512x512 .f32) (h3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3
        ∗ (∀ W, ⌜M3.view.read (Elt F) W = k1_pay1 (M2.view.read (Elt F) f2) (M0.view.read (Elt F) f0 (gx i)) (M1.view.read (Elt F) f1 (gx i))⌝
            -∗ iprop(pt c M0 f0 ∗ pt c M1 f1 ∗ pt c M2 f2 ∗ pt c M3 W) -∗ Q ⟨⟩))
      ⊢ wp frame (wpE (defs₀ (F := F)) Variants.none c none) E (cc1__norm_body i M0 h0 M1 h1 M2 h2 M3 h3) Q := by
  rw [cc1__norm_body_eq_skeleton]
  unfold cc1__norm_body_skel
  iintro ⟨H0, H1, H2, H3, Hk⟩
  sl_exec (disch := exact View.amount_pos _ _ (show 0 < S1x1x512x512.numel by decide))
  sl_step
  have hv : M3.view.read (Elt F) (M3.view.writes (Elt F) f3
      [⟨Rect.unit ![0, 0, 0, 0] S1x1x512x512.size inb_S1x1x512x512_S1x1x512x512_0_0_0_0,
          k1_pay1
            (View.readAt (Elt F) M2.view
              (Rect.unit ![0, 0, 0, 0] S1x1x512x512.size inb_S1x1x512x512_S1x1x512x512_0_0_0_0).toLoadRect f2)
            (normRun.sl.r c i M0 f0) (normRun.sl.r_1 c i M1 f1)⟩])
      = k1_pay1 (M2.view.read (Elt F) f2) (M0.view.read (Elt F) f0 (gx i)) (M1.view.read (Elt F) f1 (gx i)) := by
    have e0 : normRun.sl.r c i M0 f0 = M0.view.read (Elt F) f0 (gx i) := by
      unfold normRun.sl.r
      exact congrArg (M0.view.read (Elt F) f0) (word_emb i _)
    have e1 : normRun.sl.r_1 c i M1 f1 = M1.view.read (Elt F) f1 (gx i) := by
      unfold normRun.sl.r_1
      exact congrArg (M1.view.read (Elt F) f1) (word_emb i _)
    rw [e0, e1]
    refine (View.read_writes_eq_canon M3.view f3 _ fun y => ⟨_, List.mem_singleton_self _, ?_⟩).trans ?_
    · exact View.mem_set_unit_zero (by decide) inb_S1x1x512x512_S1x1x512x512_0_0_0_0 y
    · rw [View.canon_cons_unit_lit _ _ _ (by decide), View.readAt_eq_ld, View.ld_unit_lit _ _ (by decide)]
  iapply Hk $$ %_ %hv
  isplitl [H0]; · iexact H0
  isplitl [H1]; · iexact H1
  isplitl [H2]; · iexact H2
  iexact H3

/-! ## The proof data -/

/-- A staging buffer at contents read as `X`: the buffer whole at some contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

variable (W : Dev nD → Valuation τ sig (Elt F))

/-- The three arrays the call reads and the one it writes, at the contents `W` on entry. -/
abbrev arr (c : Dev nD) (w : Fin 4) : Buf (Elt F) (((cfg1.win w).arr.view.loc (c : Thread nD τ))) := W c (Proc.devRef .tc (Pipeline.arrRef spec1 w))

/-- The block point `t` reads of the operand. -/
abbrev blk2 (c : Dev nD) (t : Fin cfg1.N) : Vec F S1x1x512x512 .f32 := heldIn cfg1 (arr W c) 2 t.val t.isLt

/-- What the body leaves at point `t`. -/
abbrev out3 (c : Dev nD) (t : Fin cfg1.N) : Vec F S1x1x512x512 .f32 :=
  k1_pay1 (blk2 W c t) (heldIn cfg1 (arr W c) 0 t.val t.isLt (gx (grid1.coords t))) (heldIn cfg1 (arr W c) 1 t.val t.isLt (gx (grid1.coords t)))

/-- The arrays at `W` on entry; the windows read kept as fetched, the result's at `out3`; nothing owed; full shares. -/
def dat (c : Dev nD) : Dat τ (Elt F) (HIx 1) ℕ UU ℕ cfg1 c where
  A w := arr W c w
  after w t := match w with
    | ⟨0, _⟩ => heldIn cfg1 (arr W c) 0 t.val t.isLt
    | ⟨1, _⟩ => heldIn cfg1 (arr W c) 1 t.val t.isLt
    | ⟨2, _⟩ => heldIn cfg1 (arr W c) 2 t.val t.isLt
    | ⟨3, _⟩ => out3 W c t
  Φ _ := Pipeline.scopedRest (Ix := HIx 1) (Name := ℕ) (U := UU) (Lvl := ℕ) (Val := Elt F) spec1 c
  q _ := fullShare
  owed _ := 0

theorem before0 (c : Dev nD) (t : Fin cfg1.N) (d) : (dat W c).before 0 t d = heldIn cfg1 (arr W c) 0 t.val t.isLt :=
  (dat W c).before_eq_heldIn 0 rfl (fun _ => rfl) (fun _ _ => rfl) (fun _ => rfl) t d
theorem before1 (c : Dev nD) (t : Fin cfg1.N) (d) : (dat W c).before 1 t d = heldIn cfg1 (arr W c) 1 t.val t.isLt :=
  (dat W c).before_eq_heldIn 1 rfl (fun _ => rfl) (fun _ _ => rfl) (fun _ => rfl) t d
theorem before2 (c : Dev nD) (t : Fin cfg1.N) (d) : (dat W c).before 2 t d = heldIn cfg1 (arr W c) 2 t.val t.isLt :=
  (dat W c).before_eq_heldIn 2 rfl (fun _ => rfl) (fun _ _ => rfl) (fun _ => rfl) t d

theorem body_obligation (c : Dev nD) : BodyObligation (dat W c) (defs₀ (F := F)) 𝒱₀ (default : HIx 1) Set.univ := fun t => by
  rw [bigSep_W1, bigSep_W1]
  have hs0 := hstage1_0 ((cfg1.slots t 0).cast nbuf1_0)
  have hs1 := hstage1_1 ((cfg1.slots t 1).cast nbuf1_1)
  have hs2 := hstage1_2 ((cfg1.slots t 2).cast nbuf1_2)
  have hs3 := hstage1_3 ((cfg1.slots t 3).cast nbuf1_3)
  dsimp only
  rw [show (dat W c).Φ t.castSucc = (dat W c).Φ t.succ from rfl,
    show (dat W c).owesAt (default : HIx 1) t.succ = (dat W c).owesAt default t.castSucc from rfl]
  change _ ⊢ wp _ (wpE defs₀ Variants.none (c : Thread nD τ) none) _ (bodyAt1 t) _
  rw [owns_pt c (stage1_0 (cfg1.slots t 0)) hs0, owns_pt c (stage1_1 (cfg1.slots t 1)) hs1, owns_pt c (stage1_2 (cfg1.slots t 2)) hs2,
    owns_pt c (stage1_3 (cfg1.slots t 3)) hs3]
  iintro ⟨HΦ, HO, ⟨%d0, H0⟩, ⟨%d1, H1⟩, ⟨%d2, H2⟩, ⟨%d3, H3⟩⟩
  ihave H0 := (Entails.of_eq (owns_pt c (stage1_0 (cfg1.slots t 0)) hs0 _)) $$ H0
  ihave H1 := (Entails.of_eq (owns_pt c (stage1_1 (cfg1.slots t 1)) hs1 _)) $$ H1
  ihave H2 := (Entails.of_eq (owns_pt c (stage1_2 (cfg1.slots t 2)) hs2 _)) $$ H2
  ihave H3 := (Entails.of_eq (owns_pt c (stage1_3 (cfg1.slots t 3)) hs3 _)) $$ H3
  icases H0 with ⟨%f0, %e0, H0⟩
  icases H1 with ⟨%f1, %e1, H1⟩
  icases H2 with ⟨%f2, %e2, H2⟩
  rw [before0] at e0
  rw [before1] at e1
  rw [before2] at e2
  icases H3 with ⟨%f3, -, H3⟩
  iapply (normRun c (grid1.coords t) (stage1_0 (cfg1.slots t 0)) hs0 (stage1_1 (cfg1.slots t 1)) hs1 (stage1_2 (cfg1.slots t 2)) hs2
    (stage1_3 (cfg1.slots t 3)) hs3 f0 f1 f2 f3 Set.univ)
  isplitl [H0]; · iexact H0
  isplitl [H1]; · iexact H1
  isplitl [H2]; · iexact H2
  isplitl [H3]; · iexact H3
  iintro %g %hg ⟨H0, H1, H2, H3⟩
  isplitl [HΦ]; · iexact HΦ
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists g; isplitr
  · ipureintro; rw [hg, e0, e1, e2]; rfl
  iexact H3

/-! ## The result's array -/

/-- Each element times its row and channel's factor, plus their offset. -/
def affine (sc of : Vec F S32x3 .f32) (x : Vec F S32x3x512x512 .f32) : Vec F S32x3x512x512 .f32 := fun j =>
  FloatOps.addf (FloatOps.mulf (x j) (sc (ValueIdx.ix2 (j 0) (j 1)))) (of (ValueIdx.ix2 (j 0) (j 1)))

/-- A fetched block that is the part of `X` its window covers is `X`. -/
theorem fill_eq (w : Fin 4) (t : Fin cfg1.N) {α : Type} (hclip : ∀ a, (cfg1.win w).clip (cfg1.grid.coords t) a = none)
    (d X : (cfg1.win w).block.Idx → α) (g : ((cfg1.win w).xblock (cfg1.grid.coords t)).Idx → α)
    (h : g = (cfg1.win w).cut (cfg1.grid.coords t) X) : (cfg1.win w).fill (cfg1.grid.coords t) d g = X := by
  subst h
  exact (Pipeline.fill_of_clip_none (cfg := cfg1) w _ hclip d X _).trans (Pipeline.Window.fill_cut (cfg1.win w) _ X)

theorem index0 : ∀ t : Fin cfg1.N, win1_0.index t = ![0, 0] := (by decide +kernel : ∀ t : Fin grid1.N, _)
theorem index1 : ∀ t : Fin cfg1.N, win1_1.index t = ![0, 0] := (by decide +kernel : ∀ t : Fin grid1.N, _)
theorem index2 : ∀ t : Fin cfg1.N, win1_2.index t = ![(grid1.coords t 0).val, (grid1.coords t 1).val, 0, 0] :=
  (by decide +kernel : ∀ t : Fin grid1.N, _)
theorem index3 : ∀ t : Fin cfg1.N, win1_3.index t = ![(grid1.coords t 0).val, (grid1.coords t 1).val, 0, 0] :=
  (by decide +kernel : ∀ t : Fin grid1.N, _)

/-- The factors' buffer holds them at every point. -/
theorem held0 (c : Dev nD) : ∀ (n : ℕ) (h : n < cfg1.N), heldIn cfg1 (arr W c) 0 n h = W c main_v8 := by
  have hb : ∀ (t : Fin cfg1.N), ((cfg1.win 0).blk t).view.read (Elt F) (arr W c 0) = (cfg1.win 0).cut (cfg1.grid.coords t) (W c main_v8) := fun t => by
    funext y
    blk_simp
    blk_ext [index0]
  intro n h
  by_cases hf : (cfg1.win 0).fetch ⟨n, h⟩ = true
  · exact (Pipeline.heldIn_of_fetch (arr W c) 0 ⟨n, h⟩ hf).trans (fill_eq 0 ⟨n, h⟩ (fun _ => rfl) _ _ _ (hb _))
  · induction n with
    | zero => exact absurd ((fetch1_0 ⟨0, h⟩).mpr rfl) hf
    | succ n ih =>
      rw [Pipeline.heldIn_of_not_fetch _ _ _ _ (Bool.eq_false_iff.mpr hf)]
      by_cases hf' : (cfg1.win 0).fetch ⟨n, Nat.lt_of_succ_lt h⟩ = true
      · exact (Pipeline.heldIn_of_fetch (arr W c) 0 ⟨n, _⟩ hf').trans (fill_eq 0 ⟨n, _⟩ (fun _ => rfl) _ _ _ (hb _))
      · exact ih _ hf'

/-- The offsets' buffer holds them at every point. -/
theorem held1 (c : Dev nD) : ∀ (n : ℕ) (h : n < cfg1.N), heldIn cfg1 (arr W c) 1 n h = W c main_v11 := by
  have hb : ∀ (t : Fin cfg1.N), ((cfg1.win 1).blk t).view.read (Elt F) (arr W c 1) = (cfg1.win 1).cut (cfg1.grid.coords t) (W c main_v11) := fun t => by
    funext y
    blk_simp
    blk_ext [index1]
  intro n h
  by_cases hf : (cfg1.win 1).fetch ⟨n, h⟩ = true
  · exact (Pipeline.heldIn_of_fetch (arr W c) 1 ⟨n, h⟩ hf).trans (fill_eq 1 ⟨n, h⟩ (fun _ => rfl) _ _ _ (hb _))
  · induction n with
    | zero => exact absurd ((fetch1_1 ⟨0, h⟩).mpr rfl) hf
    | succ n ih =>
      rw [Pipeline.heldIn_of_not_fetch _ _ _ _ (Bool.eq_false_iff.mpr hf)]
      by_cases hf' : (cfg1.win 1).fetch ⟨n, Nat.lt_of_succ_lt h⟩ = true
      · exact (Pipeline.heldIn_of_fetch (arr W c) 1 ⟨n, _⟩ hf').trans (fill_eq 1 ⟨n, _⟩ (fun _ => rfl) _ _ _ (hb _))
      · exact ih _ hf'

/-- The entry of the operand that place `y` of point `t`'s block is. -/
abbrev at4 (t : Fin cfg1.N) (y : S1x1x512x512.Idx) : S32x3x512x512.Idx :=
  ValueIdx.ix4 (grid1.coords t 0) (grid1.coords t 1) (y 2) (y 3)

/-- The operand's buffer holds its block at every point. -/
theorem held2 (c : Dev nD) (t : Fin cfg1.N) : heldIn cfg1 (arr W c) 2 t.val t.isLt = fun y => W c main_arg0 (at4 t y) := by
  refine (Pipeline.heldIn_of_fetch (arr W c) 2 t (fetch1_2 t)).trans (fill_eq 2 t (fun _ => rfl) _ _ _ ?_)
  funext y
  blk_simp
  blk_ext [index2]

theorem out_eq (c : Dev nD) : (dat W c).arrAt 3 cfg1.N = affine (W c main_v8) (W c main_v11) (W c main_arg0) := by
  refine (dat W c).arrAt_eq_of_covers 3 _ (by decide +kernel) fun t hf y => ?_
  blk_simp
  show out3 W c t _ = _
  have he : (win1_3.blk t).view.emb y = at4 t y := by
    blk_ext [index3]
  rw [he]
  unfold out3 blk2
  rw [held0, held1, held2]
  rfl

end Cert.Proof.KI

end
-- ==== Proof.IdealMain.lean ====
/-
  `@main` on the TensorCore — the constants, the SparseCore call, the factors and the offsets, the grid call — and the program's run:
  the arguments unchanged, the result at `affine` of the factors and offsets made of the peaks, every semaphore at zero.
-/
module

public import proofs.«01_k».proof.Proof.IdealRegion
public import Idealize.ShloMosaic.Lib.StableHlo.RunRead

@[expose] public section

noncomputable section

namespace Cert.Proof.KI

open Cert.KernelIdeal Cert.KernelIdeal.Gen Cert.Proof.Hist

open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation heldIn ucRefs RegionSeg cellsGhost toksInit pin)

variable {F : FTy → Type}

local notation "𝕄" => MT nD τ sig (HIx 1) (Elt F) ℕ UU ℕ

variable [FloatOps F] [∀ e, Nonempty (Elt F e)]

/-! ## The host's operations -/

/-- The two constants. -/
abbrev opsA : List (HloOp τ sig (Elt F)) :=
  [StableHlo.nullary main_cst (fun i => FloatOps.ofBits .f32 (lit0 (S3.rowMajor i))),
   StableHlo.nullary main_cst_0 (fun i => FloatOps.ofBits .f32 (lit1 (S3.rowMajor i)))]

/-- From the peaks to the factors and the offsets. -/
abbrev opsB : List (HloOp τ sig (Elt F)) :=
  [StableHlo.unary main_v0 main_v1 (extractStridedSlice S32x3 ![0, 0] · slices_S32x16_S32x3_0_0),
   StableHlo.nary ![main_arg1, main_arg2, main_arg3] main_v2 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))),
   StableHlo.unary main_v2 main_v3 (broadcastInDim S1x3 ![1] bcast_S3_S1x3_1),
   StableHlo.unary main_cst main_v4 (broadcastInDim S1x3 ![1] bcast_S3_S1x3_1),
   StableHlo.unary main_v4 main_v5 (broadcastInDim S32x3 ![0, 1] bcast_S1x3_S32x3_0_1),
   StableHlo.binary main_v1 main_v5 main_v6 mulf,
   StableHlo.unary main_v3 main_v7 (broadcastInDim S32x3 ![0, 1] bcast_S1x3_S32x3_0_1),
   StableHlo.binary main_v7 main_v6 main_v8 Host.divf,
   StableHlo.binary main_cst_0 main_cst main_v9 Host.divf,
   StableHlo.unary main_v9 main_v10 (broadcastInDim S1x3 ![1] bcast_S3_S1x3_1),
   StableHlo.unary main_v10 main_v11 (broadcastInDim S32x3 ![0, 1] bcast_S1x3_S32x3_0_1)]

theorem main_chain (d : Dev nD) : main (F := F) d = Pipeline.chain [StableHlo.seq opsA, sc.run d 0, StableHlo.seq opsB,
    SparseCore.liftProg (Prog.lift (.customCall (Pipeline.entry 0) ()))] := by
  chain_rfl

theorem subA : ∀ op ∈ opsA (F := F), op.bufs ⊆ ucRefs τ sig := by
  simp only [opsA, List.forall_mem_cons, List.not_mem_nil, false_imp_iff, implies_true, and_true]
  exact ⟨Pipeline.sub_ucRefs _ (StableHlo.nullary_bufs_sub ..), Pipeline.sub_ucRefs _ (StableHlo.nullary_bufs_sub ..)⟩
theorem subB : ∀ op ∈ opsB (F := F), op.bufs ⊆ ucRefs τ sig := by
  simp only [opsB, List.forall_mem_cons, List.not_mem_nil, false_imp_iff, implies_true, and_true]
  exact ⟨Pipeline.sub_ucRefs _ (StableHlo.unary_bufs_sub ..), Pipeline.sub_ucRefs _ (StableHlo.nary_bufs_sub ..),
    Pipeline.sub_ucRefs _ (StableHlo.unary_bufs_sub ..), Pipeline.sub_ucRefs _ (StableHlo.unary_bufs_sub ..),
    Pipeline.sub_ucRefs _ (StableHlo.unary_bufs_sub ..), Pipeline.sub_ucRefs _ (StableHlo.binary_bufs_sub ..),
    Pipeline.sub_ucRefs _ (StableHlo.unary_bufs_sub ..), Pipeline.sub_ucRefs _ (StableHlo.binary_bufs_sub ..),
    Pipeline.sub_ucRefs _ (StableHlo.binary_bufs_sub ..), Pipeline.sub_ucRefs _ (StableHlo.unary_bufs_sub ..),
    Pipeline.sub_ucRefs _ (StableHlo.unary_bufs_sub ..)⟩
theorem freshA : ∀ op ∈ opsA (F := F), op.fresh = ∅ := by
  simp only [opsA, List.forall_mem_cons, List.not_mem_nil, false_imp_iff, implies_true, and_true]
  exact ⟨rfl, rfl⟩
theorem freshB : ∀ op ∈ opsB (F := F), op.fresh = ∅ := by
  simp only [opsB, List.forall_mem_cons, List.not_mem_nil, false_imp_iff, implies_true, and_true]
  exact ⟨rfl, rfl, rfl, rfl, rfl, rfl, rfl, rfl, rfl, rfl, rfl⟩

/-! ## The grid call's region -/

section Region

variable (W : Dev nD → Valuation τ sig (Elt F))

abbrev adm : (p : Fin 1) → (pcfgs (F := F) p).Adm := fun p => (cfgs p).toPCfg_adm

abbrev pdats : (p : Fin 1) → (c : Dev nD) → Dat τ (Elt F) (HIx 1) ℕ UU ℕ (pin (pcfgs (F := F)) adm p) c
  | 0, c => dat W c

theorem cut : Pipeline.LevelCut (nD := nD) (τ := τ) (Val := Elt F) (pcfgs (F := F)) adm (default : HIx 1) (K (F := F)).L (K (F := F)).lev 0 (fun _ => 0) (fun _ => 0) where
  hι _ _ _ := Finset.mem_univ _
  hιb _ _ _ := le_refl _
  hD c g i h := absurd h (by simp)

set_option backward.isDefEq.respectTransparency.types false in
theorem hbody (c : Dev nD) : BodyObligation (pdats W 0 c) (defs₀ (F := F)) 𝒱₀ (default : HIx 1) Set.univ := body_obligation W c

set_option backward.isDefEq.respectTransparency.types false in
theorem hloose (c : Dev nD) : Pipeline.BodyObligationLoose (pdats W 0 c) (defs₀ (F := F)) 𝒱₀ (default : HIx 1) Set.univ :=
  (hbody W c).loose

abbrev restS (c : Dev nD) : sProp 𝕄 := Pipeline.scopedRest (Ix := HIx 1) (Name := ℕ) (U := UU) (Lvl := ℕ) (Val := Elt F) spec1 c

theorem hin (c : Dev nD) : iprop(Pipeline.scopedRest (pin (pcfgs (F := F)) adm 0).spec c ∗ BI.emp) ⊢ (pdats W 0 c).Φ 0 :=
  show iprop(restS c ∗ BI.emp) ⊢ restS (F := F) c from sep_elim_left
theorem hout (c : Dev nD) : (pdats W 0 c).Φ (Fin.last (pin (pcfgs (F := F)) adm 0).N) ⊢ iprop(Pipeline.scopedRest (pin (pcfgs (F := F)) adm 0).spec c ∗ BI.emp) :=
  show restS (F := F) c ⊢ iprop(restS c ∗ BI.emp) from Laws.sep_emp.2

set_option backward.isDefEq.respectTransparency.types false in
/-- The grid call's region, entered from the unscoped arrays at `W`. -/
def reg : RegionSeg (pcfgs (F := F)) adm (pdats W) (default : HIx 1) (defs₀ (F := F)) 𝒱₀ (K (F := F)).L (K (F := F)).lev 0 :=
  RegionSeg.ofHeldIn (pcfgs (F := F)) adm (pdats W) (default : HIx 1) (defs₀ (F := F)) 𝒱₀ (K (F := F)).L (K (F := F)).lev 0 (fun _ => 0) (ucRefs τ sig)
    (fun _ => BI.emp) (fun _ => BI.emp) (launch1.toP) rfl (hloose W) (fun _ _ => rfl) (fun _ => rfl)
    (fun c w => (dat W c).share_full (fun _ => rfl) w) (hin W) (hout W) (fun _ => 0) cut (fun _ => BI.emp) W
    (fun _ _ => rfl)

theorem reg_pre (c : Dev nD) :
    iprop(held (c.tc : Thread nD τ) (ucRefs τ sig) (W c) ∗ ((∃ Wd, owes (c.tc : Thread nD τ) (0 : CellTallies nD τ sig (HIx 1)) Wd) ∗ BI.emp ∗ BI.emp))
      ⊢ (reg W).pre c :=
  RegionSeg.ofHeldIn_pre (pcs := pcfgs (F := F)) (p := 0) (D := fun _ => 0) (X := fun _ => BI.emp) (Y := fun _ => BI.emp) (R := fun _ => BI.emp)
    (W := W) (Pipeline.arrRefs_sub_ucRefs spec1 (by decide)) c
theorem reg_post (c : Dev nD) : (reg W).post c
    ⊢ iprop(held (c.tc : Thread nD τ) (ucRefs τ sig) (Pipeline.afterRegion (dat W c) (W c))
        ∗ ((∃ Wd, owes (c.tc : Thread nD τ) (0 : CellTallies nD τ sig (HIx 1)) Wd) ∗ BI.emp ∗ BI.emp)) :=
  RegionSeg.ofHeldIn_post (pcs := pcfgs (F := F)) (p := 0) (Pipeline.arrRefs_sub_ucRefs spec1 (by decide)) c

end Region

/-! ## `@main` on the TensorCore -/

variable (m : (ℓ : Loc nD τ sig) → Buf (Elt F) ℓ) (ρ : Dev nD → PrngReg)

/-- The arrays at launch; after the constants; after the SparseCore call; after the factors and offsets. -/
abbrev V0 (d : Dev nD) : Valuation τ sig (Elt F) := fun b => m (d, b)
abbrev V1 (d : Dev nD) : Valuation τ sig (Elt F) := StableHlo.after opsA (V0 m d)
def V2 (d : Dev nD) : Valuation τ sig (Elt F) := Function.update (V1 m d) (Proc.devRef .tc main_v0) (pkVal m d)
abbrev V3 (d : Dev nD) : Valuation τ sig (Elt F) := StableHlo.after opsB (V2 m d)

/-- The operand and the peaks, as device buffers; and the arguments with the result. -/
abbrev S2 : Finset (DevRef τ sig) := {Proc.devRef .tc main_arg0, Proc.devRef .tc main_v0}
abbrev S5 : Finset (DevRef τ sig) :=
  {Proc.devRef .tc main_arg0, Proc.devRef .tc main_arg1, Proc.devRef .tc main_arg2, Proc.devRef .tc main_arg3, Proc.devRef .tc main_v12}

abbrev aLoc (d : Dev nD) (r : Ref sig .tc) : Loc nD τ sig := (SparseCore.T d).loc r

theorem S2_sub : S2 ⊆ ucRefs τ sig := by
  intro b hb
  simp only [S2, Finset.mem_insert, Finset.mem_singleton] at hb
  rcases hb with rfl | rfl <;> exact Pipeline.devRef_mem_ucRefs rfl
theorem S5_sub : S5 ⊆ ucRefs τ sig := by
  intro b hb
  simp only [S5, Finset.mem_insert, Finset.mem_singleton] at hb
  rcases hb with rfl | rfl | rfl | rfl | rfl <;> exact Pipeline.devRef_mem_ucRefs rfl

omit [FloatOps F] [∀ e, Nonempty (Elt F e)] in
theorem held_S2 (d : Dev nD) (V : Valuation τ sig (Elt F)) :
    (held (d.tc : Thread nD τ) S2 V : sProp 𝕄) = iprop((labLoc d ↦{fullShare} V main_arg0) ∗ pkLoc d ↦{fullShare} V main_v0) := by
  unfold held S2
  rw [SparseCore.bigSep_insert' (by decide), bigSep_singleton]
omit [FloatOps F] [∀ e, Nonempty (Elt F e)] in
theorem held_S5 (d : Dev nD) (V : Valuation τ sig (Elt F)) :
    (held (d.tc : Thread nD τ) S5 V : sProp 𝕄) = iprop((aLoc d main_arg0 ↦{fullShare} V main_arg0) ∗ (aLoc d main_arg1 ↦{fullShare} V main_arg1)
      ∗ (aLoc d main_arg2 ↦{fullShare} V main_arg2) ∗ (aLoc d main_arg3 ↦{fullShare} V main_arg3) ∗ aLoc d main_v12 ↦{fullShare} V main_v12) := by
  unfold held S5
  rw [SparseCore.bigSep_insert' (by decide), SparseCore.bigSep_insert' (by decide), SparseCore.bigSep_insert' (by decide),
    SparseCore.bigSep_insert' (by decide), bigSep_singleton]

/-- What the run leaves in the result. -/
abbrev outVal (d : Dev nD) : Vec F S32x3x512x512 .f32 := affine (V3 m d main_v8) (V3 m d main_v11) (m (aLoc d main_arg0))

theorem V1_arg {r : Ref sig .tc} (d : Dev nD) (h : r ∉ [main_cst, main_cst_0]) : V1 m d r = m (aLoc d r) :=
  StableHlo.after_unwritten [main_cst, main_cst_0] rfl h _
theorem V2_arg {r : Ref sig .tc} (d : Dev nD) (h : r ∉ [main_v0]) : V2 m d r = V1 m d r :=
  Function.update_of_ne (fun e => h (by rw [Proc.devRef_injective _ e]; exact List.mem_singleton_self _)) _ _
theorem V2_v0 (d : Dev nD) : V2 m d main_v0 = pkVal m d := Function.update_self _ _ _
/-- The operand as it was and the peaks written, with the other arrays, are the arrays after the SparseCore call. -/
theorem held_V2 (d : Dev nD) : iprop((labLoc d ↦{fullShare} m (labLoc d)) ∗ pkLoc d ↦{fullShare} pkVal m d)
    = (held (d.tc : Thread nD τ) S2 (V2 m d) : sProp 𝕄) := by
  rw [held_S2, V2_v0, V2_arg m (r := main_arg0) d (by decide), V1_arg m (r := main_arg0) d (by decide)]
theorem rest_V2 (d : Dev nD) : iprop((held (d.tc : Thread nD τ) S2 (V2 m d) : sProp 𝕄) ∗ held (d.tc : Thread nD τ) (ucRefs τ sig \ S2) (V1 m d))
    = held (d.tc : Thread nD τ) (ucRefs τ sig) (V2 m d) := by
  rw [StableHlo.held_sub_split (d.tc : Thread nD τ) S2_sub (V2 m d)]
  refine congrArg (fun X => iprop(held (d.tc : Thread nD τ) S2 (V2 m d) ∗ X)) ?_
  refine StableHlo.held_congr _ fun b hb => ?_
  refine (Function.update_of_ne (fun e => (Finset.mem_sdiff.mp hb).2 ?_) _ _).symm
  rw [e]
  exact Finset.mem_insert_of_mem (Finset.mem_singleton_self _)

theorem V3_arg {r : Ref sig .tc} (d : Dev nD)
    (h : r ∉ [main_v1, main_v2, main_v3, main_v4, main_v5, main_v6, main_v7, main_v8, main_v9, main_v10, main_v11]) :
    V3 m d r = V2 m d r :=
  StableHlo.after_unwritten [main_v1, main_v2, main_v3, main_v4, main_v5, main_v6, main_v7, main_v8, main_v9, main_v10, main_v11] rfl h _
theorem V3_in {r : Ref sig .tc} (d : Dev nD)
    (h : r ∉ [main_v1, main_v2, main_v3, main_v4, main_v5, main_v6, main_v7, main_v8, main_v9, main_v10, main_v11])
    (h' : r ∉ [main_v0]) (h'' : r ∉ [main_cst, main_cst_0]) : V3 m d r = m (aLoc d r) :=
  (V3_arg m d h).trans ((V2_arg m d h').trans (V1_arg m d h''))

/-- The arrays after the grid call. -/
abbrev V4 (d : Dev nD) : Valuation τ sig (Elt F) := Pipeline.afterRegion (dat (V3 m) d) (V3 m d)

theorem V4_in {r : Ref sig .tc} (d : Dev nD) (hr : r ≠ main_v12)
    (h : r ∉ [main_v1, main_v2, main_v3, main_v4, main_v5, main_v6, main_v7, main_v8, main_v9, main_v10, main_v11])
    (h' : r ∉ [main_v0]) (h'' : r ∉ [main_cst, main_cst_0]) : V4 m d r = m (aLoc d r) := by
  refine (Pipeline.afterRegion_keeps (dat (V3 m) d) (V3 m d) winFacts1.arr_inj (fun _ => rfl) r fun w e => ?_).trans (V3_in m d h h' h'')
  subst e
  fin_cases w
  · rfl
  · rfl
  · rfl
  · exact absurd rfl hr
theorem V4_out (d : Dev nD) : V4 m d main_v12 = outVal m d := by
  refine (Pipeline.afterRegion_arr (dat (V3 m) d) (V3 m d) winFacts1.arr_inj 3).trans ((out_eq (V3 m) d).trans ?_)
  rw [V3_in m d (r := main_arg0) (by decide) (by decide) (by decide)]

abbrev FIN (d : Dev nD) : sProp 𝕄 := iprop((aLoc d main_arg0 ↦{fullShare} m (aLoc d main_arg0)) ∗ (aLoc d main_arg1 ↦{fullShare} m (aLoc d main_arg1))
  ∗ (aLoc d main_arg2 ↦{fullShare} m (aLoc d main_arg2)) ∗ (aLoc d main_arg3 ↦{fullShare} m (aLoc d main_arg3)) ∗ aLoc d main_v12 ↦{fullShare} outVal m d)

theorem held_V4 (d : Dev nD) : (held (d.tc : Thread nD τ) S5 (V4 m d) : sProp 𝕄) = FIN m d := by
  rw [held_S5, V4_out, V4_in m d (r := main_arg0) (by decide) (by decide) (by decide) (by decide),
    V4_in m d (r := main_arg1) (by decide) (by decide) (by decide) (by decide),
    V4_in m d (r := main_arg2) (by decide) (by decide) (by decide) (by decide),
    V4_in m d (r := main_arg3) (by decide) (by decide) (by decide) (by decide)]

/-- After the call the TensorCore owes nothing, whatever it has waited for. -/
theorem tcSt_owes (d : Dev nD) : ((K (F := F)).tcSt EH d 1 : sProp 𝕄)
    ⊢ iprop((∃ Wd, owes (d.tc : Thread nD τ) (0 : CellTallies nD τ sig (HIx 1)) Wd)
        ∗ ((∃ Wd, owes (d.tc : Thread nD τ) (0 : CellTallies nD τ sig (HIx 1)) Wd) -∗ (K (F := F)).tcSt EH d 1)) := by
  unfold SparseCore.Cfg.tcSt
  rw [(K (F := F)).Otc_end d (le_refl 1)]
  iintro ⟨⟨%Wd, -, HO⟩, Hr⟩
  isplitl [HO]; · iexists Wd; iexact HO
  iintro ⟨%Wd, HO⟩
  isplitl [HO]
  · iexists Wd
    isplitr
    · ipureintro
      intro p _
      rcases hp : p.2 with _ | q
      · rw [SparseCore.Cfg.lev_none]; exact Nat.zero_le _
      · refine (SparseCore.Cfg.lev_some_le _ _ q).trans ?_
        have := q.isLt
        show 8 * q.val + 7 ≤ 8 * 1
        omega
    iexact HO
  iexact Hr

/-- The pipeline's ghost state on device `d`. -/
abbrev G (d : Dev nD) : sProp 𝕄 := iprop(cellsGhost (pin (pcfgs (F := F)) adm) EP 0 d ∗ toksInit (pin (pcfgs (F := F)) adm) EP 0 d)

theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (V0 m d) from
    Pipeline.unscopedBufs_held d (V0 m d), main_chain]
  simp only [Pipeline.chain_cons, Pipeline.chain_nil]
  iintro ⟨#Hctx, Hst, ⟨Hb, Hh, Hts, -⟩, HG⟩
  iapply (StableHlo.wp_seq 𝒱 none Set.univ d (ucRefs τ sig) _ opsA subA freshA (V0 m d)) $$ [Hb Hh]
  · isplitl [Hb] <;> iassumption
  iintro ⟨Hb, Hh⟩
  -- the SparseCore call, from the operand and the peaks
  ihave Hh' := (Entails.of_eq (StableHlo.held_sub_split (d.tc : Thread nD τ) S2_sub (V1 m d))) $$ Hh
  icases Hh' with ⟨H2, Hrest⟩
  ihave H2' := (Entails.of_eq (held_S2 d (V1 m d))) $$ H2
  icases H2' with ⟨Hl, Hp⟩
  rw [wp_bind]
  iapply ((K (F := F)).wp_run (D (F := F)) 𝒱 (EH := EH) (P := P m) κ d 0) $$ [Hst Hl Hp Hb Hrest Hts HG]
  isplitr; · iexact Hctx
  isplitl [Hst]; · iexact Hst
  isplitl [Hl Hp]
  · rw [st0_eq]
    isplitl [Hl]; · rw [← V1_arg m (r := main_arg0) d (by decide)]; iexact Hl
    rw [← V1_arg m (r := main_v0) d (by decide)]; iexact Hp
  iintro ⟨Hst, Hdn⟩
  ihave Hdn' := (Entails.of_eq (dn0_eq m d)) $$ Hdn
  icases Hdn' with ⟨Hl, Hp⟩
  ihave H2 := (Entails.of_eq (held_V2 m d)) $$ [Hl Hp]
  · isplitl [Hl] <;> iassumption
  ihave Hh := (Entails.of_eq (rest_V2 m d)) $$ [H2 Hrest]
  · isplitl [H2] <;> iassumption
  -- the factors and the offsets
  iapply (StableHlo.wp_seq 𝒱 none Set.univ d (ucRefs τ sig) _ opsB subB freshB (V2 m d)) $$ [Hb Hh]
  · isplitl [Hb] <;> iassumption
  iintro ⟨Hb, Hh⟩
  -- the grid call
  ihave Hst' := (show ((K (F := F)).tcSt EH d ((0 : Fin 1).val + 1) : sProp 𝕄) ⊢ _ from tcSt_owes d) $$ Hst
  icases Hst' with ⟨HO, Hst⟩
  rw [wp_bind]
  iapply ((K (F := F)).wp_liftProg (D (F := F)) 𝒱 (SparseCore.T d) Set.univ none (Prog.lift (.customCall (Pipeline.entry 0) ())) _)
  iapply (RegionSeg.wp (pcfgs (F := F)) adm (pdats (V3 m)) (default : HIx 1) cellOf_inj EP (defs₀ (F := F)) 𝒱₀ (K (F := F)).L (K (F := F)).lev
    (reg (V3 m)) d none (fun _ h => nomatch h) .ret _)
  isplitr [Hb Hh HO HG]
  · iintro ⟨Hb, Hpost⟩
    ihave Hpost' := (reg_post (V3 m) d) $$ Hpost
    icases Hpost' with ⟨Hh, HO, -, -⟩
    rw [wp_ret]; imodintro
    rw [Prog.pure_eq_ret, wp_ret]; imodintro
    isplitl [HO Hst]; · iapply Hst; iexact HO
    isplitl [Hh]
    · ihave Hh' := (Entails.of_eq (StableHlo.held_sub_split (d.tc : Thread nD τ) S5_sub (V4 m d))) $$ Hh
      icases Hh' with ⟨H5, -⟩
      ihave H5' := (Entails.of_eq (held_V4 m d)) $$ H5
      iexact H5'
    isplitl [Hb] <;> iassumption
  isplitl [Hb]; · iexact Hb
  isplitl [Hh HO]
  · iapply (reg_pre (V3 m) d)
    isplitl [Hh]; · iexact Hh
    isplitl [HO]; · iexact HO
    isplitr <;> iempintro
  isplitr; · iapply ((K (F := F)).ctx_levAts κ) $$ Hctx
  iexact HG

def fq (d : Dev nD) (s' : Phys nD τ sig (Elt F)) : Prop :=
  (s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3))
    ∧ s'.mem.mem (aLoc d main_v12) = outVal m d

/-- An array held whole is what the memory has, and stays held beside it. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (read_whole s' _ _) $$ [H0 HSI]
  · isplitl [H0] <;> iassumption
  icases H with ⟨%e0, HSI⟩
  ihave H := (read_whole s' _ _) $$ [H1 HSI]
  · isplitl [H1] <;> iassumption
  icases H with ⟨%e1, HSI⟩
  ihave H := (read_whole s' _ _) $$ [H2 HSI]
  · isplitl [H2] <;> iassumption
  icases H with ⟨%e2, HSI⟩
  ihave H := (read_whole s' _ _) $$ [H3 HSI]
  · isplitl [H3] <;> iassumption
  icases H with ⟨%e3, HSI⟩
  ihave H := (read_whole s' _ _) $$ [H4 HSI]
  · isplitl [H4] <;> iassumption
  icases H with ⟨%e4, -⟩
  ipureintro; exact ⟨⟨e0, e1, e2, e3⟩, e4⟩

/-! ## The launch's ghost state -/

def u₀ : UU := (Rounds.initOf (K (F := F)).hsCells (K (F := F)).hsToks,
  (Rounds.initOf (Pipeline.cells (pin (pcfgs (F := F)) adm) cellOf_inj) (Pipeline.launchToks (pin (pcfgs (F := F)) adm) cellOf_inj), 1))

omit [FloatOps F] [∀ e, Nonempty (Elt F e)] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emps, bigSep_sep',
    show (bigSep Finset.univ fun d : Dev nD => cellsGhost (pin (pcfgs (F := F)) adm) (EP (F := F)) 0 d)
      = bigSep Finset.univ fun d : Dev nD => bigSep Finset.univ fun p : Fin 1 => cellsGhost (pin (pcfgs (F := F)) adm) (EP (F := F)) p d from
      bigSep_congr fun d _ => (bigSep_univ_of_subsingleton (Φ := fun p : Fin 1 => cellsGhost (pin (pcfgs (F := F)) adm) (EP (F := F)) p d) 0).symm,
    show (bigSep Finset.univ fun d : Dev nD => (toksInit (pin (pcfgs (F := F)) adm) (EP (F := F)) 0 d : sProp 𝕄))
      = bigSep Finset.univ fun d : Dev nD => bigSep Finset.univ fun p : Fin 1 => toksInit (pin (pcfgs (F := F)) adm) (EP (F := F)) p d from
      bigSep_congr fun d _ => (bigSep_univ_of_subsingleton (Φ := fun p : Fin 1 => toksInit (pin (pcfgs (F := F)) adm) (EP (F := F)) p d) 0).symm]
  unfold u₀
  iintro Hu
  ihave H := (ownU_pair _ _) $$ Hu
  icases H with ⟨HH, HR⟩
  ihave H := (own_pair_emb _ _ _) $$ HR
  icases H with ⟨HP, -⟩
  imod (Pipeline.fund_ghost (pin (pcfgs (F := F)) adm) (EP (F := F)) cellOf_inj) $$ HP with ⟨Hc, Ht⟩
  imodintro
  isplitl [HH]; · iexact HH
  isplitl [Hc Ht]
  · isplitl [Hc] <;> iassumption
  iempintro

/-! ## The program's run -/

def QC : PUnit × MemSt nD τ sig (Elt F) → Prop := fun r =>
  (∀ c : Dev nD, (r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3))
    ∧ r.2.mem (aLoc c main_v12) = outVal m c) ∧ r.2.sem = fun _ => 0

/-- Every run ends with the arguments unchanged, the result at `outVal` and every semaphore at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.KI

end
-- ==== Proof.RefRun.lean ====
/-
  The reference's run. Its `@main` is a straight line of host operations, listed here stage by stage — the three channels, then per
  channel the bins, the histogram, the chosen bin and its middle, then the rescaling — and what the line leaves in each stage's last
  buffer is stated as a function of the arguments: `bins`, `counts`, `secondBin` / `firstBin`, `middle`, `rescale`, `refOut`.
-/
module

public import Idealize.ShloMosaic.Lib.StableHlo.Run
public import Idealize.ShloMosaic.Lib.StableHlo.RunRead
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The operations of the three channels that stand in part 0 of @main. -/
abbrev opsC0 : List (HloOp τ sig (Elt F)) :=
  [ unary main_arg0 main_v0 (extractStridedSlice S32x1x512x512 ![0, 0, 0, 0] · slices_S32x3x512x512_S32x1x512x512_0_0_0_0),
    reshape main_v0 main_v1 (rfl : (.f32 : EltTy) = .f32) shapeCasts_S32x1x512x512_S32x512x512,
    unary main_arg0 main_v2 (extractStridedSlice S32x1x512x512 ![0, 1, 0, 0] · slices_S32x3x512x512_S32x1x512x512_0_1_0_0),
    reshape main_v2 main_v3 (rfl : (.f32 : EltTy) = .f32) shapeCasts_S32x1x512x512_S32x512x512,
    unary main_arg0 main_v4 (extractStridedSlice S32x1x512x512 ![0, 2, 0, 0] · slices_S32x3x512x512_S32x1x512x512_0_2_0_0),
    reshape main_v4 main_v5 (rfl : (.f32 : EltTy) = .f32) shapeCasts_S32x1x512x512_S32x512x512 ]

/-- What `opsC0` writes, in order. -/
def wC0 : List (Ref sig .tc) :=
  [main_v0, main_v1, main_v2, main_v3, main_v4, main_v5]

/-- The operations of the lightness channel: its bins, its histogram, its second highest bin and that bin's middle that stand in part 0 of @main. -/
abbrev opsL0 : List (HloOp τ sig (Elt F)) :=
  [ reshape main_v1 main_v6 (rfl : (.f32 : EltTy) = .f32) shapeCasts_S32x512x512_S32x262144,
    nullary main_cst (constant S_ .f32 0x00000000#32),
    unary main_cst main_v7 (broadcastInDim S32x262144 ![] bcast_S_S32x262144),
    binary main_v6 main_v7 main_v8 (subf),
    nullary main_cst_0 (constant S_ .f32 0x3F800000#32),
    unary main_cst_0 main_v9 (broadcastInDim S32x262144 ![] bcast_S_S32x262144),
    binary main_v8 main_v9 main_v10 (Host.divf),
    unary main_v10 main_v11 (Host.floor),
    unary main_v11 main_v12 (fptosi 32),
    nullary main_c (constantI S_ 32 0#32),
    nullary main_c_1 (constantI S_ 32 99#32),
    unary main_c main_call0_v0 id,
    unary main_call0_v0 main_call0_v1 (broadcastInDim S32x262144 ![] bcast_S_S32x262144),
    binary main_call0_v1 main_v12 main_call0_v2 maxsi,
    unary main_c_1 main_call0_v3 id,
    unary main_call0_v3 main_call0_v4 (broadcastInDim S32x262144 ![] bcast_S_S32x262144),
    binary main_call0_v4 main_call0_v2 main_v13 minsi,
    nullary main_cst_2 (constant S_ .f32 0x00000000#32),
    unary main_cst_2 main_v14 (broadcastInDim S32x262144 ![] bcast_S_S32x262144),
    binary main_v6 main_v14 main_v15 (cmpf .oge),
    nullary main_cst_3 (constant S_ .f32 0x42C80000#32),
    unary main_cst_3 main_v16 (broadcastInDim S32x262144 ![] bcast_S_S32x262144),
    binary main_v6 main_v16 main_v17 (cmpf .ole),
    binary main_v15 main_v17 main_v18 (andi),
    nullary main_c_4 (constantI S_ 32 100#32),
    unary main_c_4 main_call1_v0 id,
    unary main_call1_v0 main_call1_v1 (broadcastInDim S262144 ![] bcast_S_S262144),
    unary main_call1_v1 main_call1_v2 (broadcastInDim S32x262144 ![1] bcast_S262144_S32x262144_1),
    ternary main_v18 main_v13 main_call1_v2 main_v19 select,
    unary main_v19 main_v20 (broadcastInDim S32x262144x1 ![0, 1] bcast_S32x262144_S32x262144x1_0_1),
    nullary main_v21 (iotaInDim S101 32 0),
    unary main_v21 main_v22 (broadcastInDim S1x101 ![1] bcast_S101_S1x101_1),
    unary main_v22 main_v23 (broadcastInDim S1x1x101 ![1, 2] bcast_S1x101_S1x1x101_1_2),
    unary main_v20 main_v24 (broadcastInDim S32x262144x101 ![0, 1, 2] bcast_S32x262144x1_S32x262144x101_0_1_2),
    unary main_v23 main_v25 (broadcastInDim S32x262144x101 ![0, 1, 2] bcast_S1x1x101_S32x262144x101_0_1_2),
    binary main_v24 main_v25 main_v26 (cmpi .eq),
    unary main_v26 main_v27 (extui 32 · natLt_1_32),
    nullary main_c_5 (constantI S_ 32 0#32),
    binary main_v27 main_c_5 main_v28 (fun x v => Host.reduce IntOp.addi x v reducesTo_S32x262144x101_S32x101_d1 h_S_),
    unary main_v28 main_v29 (extractStridedSlice S32x100 ![0, 0] · slices_S32x101_S32x100_0_0),
    unary main_v29 main_v30 (sitofp .f32),
    unary main_v30 main_values (fun x => (Host.topK S32x2 1 (FloatOps.cmpfTotal .gt) x sliceFits_S32x100_S32x2).1),
    unary main_v30 main_indices (fun x => (Host.topK S32x2 1 (FloatOps.cmpfTotal .gt) x sliceFits_S32x100_S32x2).2),
    unary main_indices main_v31 (extractStridedSlice S32x1 ![0, 1] · slices_S32x2_S32x1_0_1),
    reshape main_v31 main_v32 (rfl : (.i32 : EltTy) = .i32) shapeCasts_S32x1_S32,
    unary main_v32 main_v33 (sitofp .f32),
    nullary main_cst_6 (constant S_ .f32 0x3F000000#32),
    unary main_cst_6 main_v34 (broadcastInDim S32 ![] bcast_S_S32),
    binary main_v33 main_v34 main_v35 (addf),
    nullary main_cst_7 (constant S_ .f32 0x3F800000#32),
    unary main_cst_7 main_v36 (broadcastInDim S32 ![] bcast_S_S32),
    binary main_v35 main_v36 main_v37 (mulf),
    nullary main_cst_8 (constant S_ .f32 0x00000000#32),
    unary main_cst_8 main_v38 (broadcastInDim S32 ![] bcast_S_S32),
    binary main_v38 main_v37 main_v39 (addf) ]

/-- What `opsL0` writes, in order. -/
def wL0 : List (Ref sig .tc) :=
  [main_v6, main_cst, main_v7, main_v8, main_cst_0, main_v9, main_v10, main_v11, main_v12, main_c, main_c_1, main_call0_v0, main_call0_v1, main_call0_v2, main_call0_v3, main_call0_v4, main_v13, main_cst_2, main_v14, main_v15, main_cst_3, main_v16, main_v17, main_v18, main_c_4, main_call1_v0, main_call1_v1, main_call1_v2, main_v19, main_v20, main_v21, main_v22, main_v23, main_v24, main_v25, main_v26, main_v27, main_c_5, main_v28, main_v29, main_v30, main_values, main_indices, main_v31, main_v32, main_v33, main_cst_6, main_v34, main_v35, main_cst_7, main_v36, main_v37, main_cst_8, main_v38, main_v39]

/-- The operations of the first colour channel that stand in part 0 of @main. -/
abbrev opsA0 : List (HloOp τ sig (Elt F)) :=
  [ reshape main_v3 main_v40 (rfl : (.f32 : EltTy) = .f32) shapeCasts_S32x512x512_S32x262144,
    nullary main_cst_9 (constant S_ .f32 0xC3000000#32),
    unary main_cst_9 main_v41 (broadcastInDim S32x262144 ![] bcast_S_S32x262144),
    binary main_v40 main_v41 main_v42 (subf),
    nullary main_cst_10 (constant S_ .f32 0x40233333#32),
    unary main_cst_10 main_v43 (broadcastInDim S32x262144 ![] bcast_S_S32x262144),
    binary main_v42 main_v43 main_v44 (Host.divf) ]

/-- What `opsA0` writes, in order. -/
def wA0 : List (Ref sig .tc) :=
  [main_v40, main_cst_9, main_v41, main_v42, main_cst_10, main_v43, main_v44]

/-- The operations of the first colour channel that stand in part 1 of @main. -/
abbrev opsA1 : List (HloOp τ sig (Elt F)) :=
  [ unary main_v44 main_v45 (Host.floor),
    unary main_v45 main_v46 (fptosi 32),
    nullary main_c_11 (constantI S_ 32 0#32),
    nullary main_c_12 (constantI S_ 32 99#32),
    unary main_c_11 main_call2_v0 id,
    unary main_call2_v0 main_call2_v1 (broadcastInDim S32x262144 ![] bcast_S_S32x262144),
    binary main_call2_v1 main_v46 main_call2_v2 maxsi,
    unary main_c_12 main_call2_v3 id,
    unary main_call2_v3 main_call2_v4 (broadcastInDim S32x262144 ![] bcast_S_S32x262144),
    binary main_call2_v4 main_call2_v2 main_v47 minsi,
    nullary main_cst_13 (constant S_ .f32 0xC3000000#32),
    unary main_cst_13 main_v48 (broadcastInDim S32x262144 ![] bcast_S_S32x262144),
    binary main_v40 main_v48 main_v49 (cmpf .oge),
    nullary main_cst_14 (constant S_ .f32 0x42FE0000#32),
    unary main_cst_14 main_v50 (broadcastInDim S32x262144 ![] bcast_S_S32x262144),
    binary main_v40 main_v50 main_v51 (cmpf .ole),
    binary main_v49 main_v51 main_v52 (andi),
    nullary main_c_15 (constantI S_ 32 100#32),
    unary main_c_15 main_call3_v0 id,
    unary main_call3_v0 main_call3_v1 (broadcastInDim S262144 ![] bcast_S_S262144),
    unary main_call3_v1 main_call3_v2 (broadcastInDim S32x262144 ![1] bcast_S262144_S32x262144_1),
    ternary main_v52 main_v47 main_call3_v2 main_v53 select,
    unary main_v53 main_v54 (broadcastInDim S32x262144x1 ![0, 1] bcast_S32x262144_S32x262144x1_0_1),
    nullary main_v55 (iotaInDim S101 32 0),
    unary main_v55 main_v56 (broadcastInDim S1x101 ![1] bcast_S101_S1x101_1),
    unary main_v56 main_v57 (broadcastInDim S1x1x101 ![1, 2] bcast_S1x101_S1x1x101_1_2),
    unary main_v54 main_v58 (broadcastInDim S32x262144x101 ![0, 1, 2] bcast_S32x262144x1_S32x262144x101_0_1_2),
    unary main_v57 main_v59 (broadcastInDim S32x262144x101 ![0, 1, 2] bcast_S1x1x101_S32x262144x101_0_1_2),
    binary main_v58 main_v59 main_v60 (cmpi .eq),
    unary main_v60 main_v61 (extui 32 · natLt_1_32),
    nullary main_c_16 (constantI S_ 32 0#32),
    binary main_v61 main_c_16 main_v62 (fun x v => Host.reduce IntOp.addi x v reducesTo_S32x262144x101_S32x101_d1 h_S_),
    unary main_v62 main_v63 (extractStridedSlice S32x100 ![0, 0] · slices_S32x101_S32x100_0_0),
    unary main_v63 main_v64 (sitofp .f32),
    nullary main_call4_v0 (iotaInDim S32x100 32 1),
    nullary main_call4_cst (constant S_ .f32 0xFF800000#32),
    nullary main_call4_c (constantI S_ 32 0#32),
    quaternary main_v64 main_call4_v0 main_call4_cst main_call4_c main_call4_v1_0 (fun x y u v j => (Host.argReduce reducer_argmax_f32_i32 x y u v reducesTo_S32x100_S32_d1 h_S_ j).1),
    quaternary main_v64 main_call4_v0 main_call4_cst main_call4_c main_v65 (fun x y u v j => (Host.argReduce reducer_argmax_f32_i32 x y u v reducesTo_S32x100_S32_d1 h_S_ j).2),
    unary main_v65 main_v66 (sitofp .f32),
    nullary main_cst_17 (constant S_ .f32 0x3F000000#32),
    unary main_cst_17 main_v67 (broadcastInDim S32 ![] bcast_S_S32),
    binary main_v66 main_v67 main_v68 (addf),
    nullary main_cst_18 (constant S_ .f32 0x40233333#32),
    unary main_cst_18 main_v69 (broadcastInDim S32 ![] bcast_S_S32),
    binary main_v68 main_v69 main_v70 (mulf),
    nullary main_cst_19 (constant S_ .f32 0xC3000000#32),
    unary main_cst_19 main_v71 (broadcastInDim S32 ![] bcast_S_S32),
    binary main_v71 main_v70 main_v72 (addf) ]

/-- What `opsA1` writes, in order. -/
def wA1 : List (Ref sig .tc) :=
  [main_v45, main_v46, main_c_11, main_c_12, main_call2_v0, main_call2_v1, main_call2_v2, main_call2_v3, main_call2_v4, main_v47, main_cst_13, main_v48, main_v49, main_cst_14, main_v50, main_v51, main_v52, main_c_15, main_call3_v0, main_call3_v1, main_call3_v2, main_v53, main_v54, main_v55, main_v56, main_v57, main_v58, main_v59, main_v60, main_v61, main_c_16, main_v62, main_v63, main_v64, main_call4_v0, main_call4_cst, main_call4_c, main_call4_v1_0, main_v65, main_v66, main_cst_17, main_v67, main_v68, main_cst_18, main_v69, main_v70, main_cst_19, main_v71, main_v72]

/-- The operations of the second colour channel that stand in part 1 of @main. -/
abbrev opsB1 : List (HloOp τ sig (Elt F)) :=
  [ reshape main_v5 main_v73 (rfl : (.f32 : EltTy) = .f32) shapeCasts_S32x512x512_S32x262144,
    nullary main_cst_20 (constant S_ .f32 0xC3000000#32),
    unary main_cst_20 main_v74 (broadcastInDim S32x262144 ![] bcast_S_S32x262144),
    binary main_v73 main_v74 main_v75 (subf),
    nullary main_cst_21 (constant S_ .f32 0x40233333#32),
    unary main_cst_21 main_v76 (broadcastInDim S32x262144 ![] bcast_S_S32x262144),
    binary main_v75 main_v76 main_v77 (Host.divf),
    unary main_v77 main_v78 (Host.floor),
    unary main_v78 main_v79 (fptosi 32),
    nullary main_c_22 (constantI S_ 32 0#32),
    nullary main_c_23 (constantI S_ 32 99#32),
    unary main_c_22 main_call5_v0 id,
    unary main_call5_v0 main_call5_v1 (broadcastInDim S32x262144 ![] bcast_S_S32x262144),
    binary main_call5_v1 main_v79 main_call5_v2 maxsi,
    unary main_c_23 main_call5_v3 id,
    unary main_call5_v3 main_call5_v4 (broadcastInDim S32x262144 ![] bcast_S_S32x262144),
    binary main_call5_v4 main_call5_v2 main_v80 minsi,
    nullary main_cst_24 (constant S_ .f32 0xC3000000#32),
    unary main_cst_24 main_v81 (broadcastInDim S32x262144 ![] bcast_S_S32x262144),
    binary main_v73 main_v81 main_v82 (cmpf .oge),
    nullary main_cst_25 (constant S_ .f32 0x42FE0000#32),
    unary main_cst_25 main_v83 (broadcastInDim S32x262144 ![] bcast_S_S32x262144),
    binary main_v73 main_v83 main_v84 (cmpf .ole),
    binary main_v82 main_v84 main_v85 (andi),
    nullary main_c_26 (constantI S_ 32 100#32),
    unary main_c_26 main_call6_v0 id,
    unary main_call6_v0 main_call6_v1 (broadcastInDim S262144 ![] bcast_S_S262144),
    unary main_call6_v1 main_call6_v2 (broadcastInDim S32x262144 ![1] bcast_S262144_S32x262144_1),
    ternary main_v85 main_v80 main_call6_v2 main_v86 select,
    unary main_v86 main_v87 (broadcastInDim S32x262144x1 ![0, 1] bcast_S32x262144_S32x262144x1_0_1),
    nullary main_v88 (iotaInDim S101 32 0) ]

/-- What `opsB1` writes, in order. -/
def wB1 : List (Ref sig .tc) :=
  [main_v73, main_cst_20, main_v74, main_v75, main_cst_21, main_v76, main_v77, main_v78, main_v79, main_c_22, main_c_23, main_call5_v0, main_call5_v1, main_call5_v2, main_call5_v3, main_call5_v4, main_v80, main_cst_24, main_v81, main_v82, main_cst_25, main_v83, main_v84, main_v85, main_c_26, main_call6_v0, main_call6_v1, main_call6_v2, main_v86, main_v87, main_v88]

/-- The operations of the second colour channel that stand in part 2 of @main. -/
abbrev opsB2 : List (HloOp τ sig (Elt F)) :=
  [ unary main_v88 main_v89 (broadcastInDim S1x101 ![1] bcast_S101_S1x101_1),
    unary main_v89 main_v90 (broadcastInDim S1x1x101 ![1, 2] bcast_S1x101_S1x1x101_1_2),
    unary main_v87 main_v91 (broadcastInDim S32x262144x101 ![0, 1, 2] bcast_S32x262144x1_S32x262144x101_0_1_2),
    unary main_v90 main_v92 (broadcastInDim S32x262144x101 ![0, 1, 2] bcast_S1x1x101_S32x262144x101_0_1_2),
    binary main_v91 main_v92 main_v93 (cmpi .eq),
    unary main_v93 main_v94 (extui 32 · natLt_1_32),
    nullary main_c_27 (constantI S_ 32 0#32),
    binary main_v94 main_c_27 main_v95 (fun x v => Host.reduce IntOp.addi x v reducesTo_S32x262144x101_S32x101_d1 h_S_),
    unary main_v95 main_v96 (extractStridedSlice S32x100 ![0, 0] · slices_S32x101_S32x100_0_0),
    unary main_v96 main_v97 (sitofp .f32),
    nullary main_call7_v0 (iotaInDim S32x100 32 1),
    nullary main_call7_cst (constant S_ .f32 0xFF800000#32),
    nullary main_call7_c (constantI S_ 32 0#32),
    quaternary main_v97 main_call7_v0 main_call7_cst main_call7_c main_call7_v1_0 (fun x y u v j => (Host.argReduce reducer_argmax_f32_i32 x y u v reducesTo_S32x100_S32_d1 h_S_ j).1),
    quaternary main_v97 main_call7_v0 main_call7_cst main_call7_c main_v98 (fun x y u v j => (Host.argReduce reducer_argmax_f32_i32 x y u v reducesTo_S32x100_S32_d1 h_S_ j).2),
    unary main_v98 main_v99 (sitofp .f32),
    nullary main_cst_28 (constant S_ .f32 0x3F000000#32),
    unary main_cst_28 main_v100 (broadcastInDim S32 ![] bcast_S_S32),
    binary main_v99 main_v100 main_v101 (addf),
    nullary main_cst_29 (constant S_ .f32 0x40233333#32),
    unary main_cst_29 main_v102 (broadcastInDim S32 ![] bcast_S_S32),
    binary main_v101 main_v102 main_v103 (mulf),
    nullary main_cst_30 (constant S_ .f32 0xC3000000#32),
    unary main_cst_30 main_v104 (broadcastInDim S32 ![] bcast_S_S32),
    binary main_v104 main_v103 main_v105 (addf) ]

/-- What `opsB2` writes, in order. -/
def wB2 : List (Ref sig .tc) :=
  [main_v89, main_v90, main_v91, main_v92, main_v93, main_v94, main_c_27, main_v95, main_v96, main_v97, main_call7_v0, main_call7_cst, main_call7_c, main_call7_v1_0, main_v98, main_v99, main_cst_28, main_v100, main_v101, main_cst_29, main_v102, main_v103, main_cst_30, main_v104, main_v105]

/-- The operations of the rescaling that stand in part 2 of @main. -/
abbrev opsT2 : List (HloOp τ sig (Elt F)) :=
  [ reshape main_v39 main_v106 (rfl : (.f32 : EltTy) = .f32) shapeCasts_S32_S32x1x1x1,
    reshape main_v72 main_v107 (rfl : (.f32 : EltTy) = .f32) shapeCasts_S32_S32x1x1x1,
    reshape main_v105 main_v108 (rfl : (.f32 : EltTy) = .f32) shapeCasts_S32_S32x1x1x1,
    unary main_v1 main_v109 (broadcastInDim S32x1x512x512 ![0, 2, 3] bcast_S32x512x512_S32x1x512x512_0_2_3),
    unary main_arg1 main_v110 (broadcastInDim S1x1x1x1 ![3] bcast_S1_S1x1x1x1_3),
    unary main_v110 main_v111 (broadcastInDim S32x1x512x512 ![0, 1, 2, 3] bcast_S1x1x1x1_S32x1x512x512_0_1_2_3),
    binary main_v109 main_v111 main_v112 (mulf),
    unary main_v106 main_v113 (broadcastInDim S32x1x512x512 ![0, 1, 2, 3] bcast_S32x1x1x1_S32x1x512x512_0_1_2_3),
    binary main_v112 main_v113 main_v114 (Host.divf),
    nullary main_cst_31 (constant S_ .f32 0x42C80000#32),
    unary main_cst_31 main_v115 (broadcastInDim S32x1x512x512 ![] bcast_S_S32x1x512x512),
    binary main_v114 main_v115 main_v116 (addf),
    nullary main_cst_32 (constant S_ .f32 0x43480000#32),
    unary main_cst_32 main_v117 (broadcastInDim S32x1x512x512 ![] bcast_S_S32x1x512x512),
    binary main_v116 main_v117 main_v118 (Host.divf),
    unary main_v3 main_v119 (broadcastInDim S32x1x512x512 ![0, 2, 3] bcast_S32x512x512_S32x1x512x512_0_2_3),
    unary main_arg2 main_v120 (broadcastInDim S1x1x1x1 ![3] bcast_S1_S1x1x1x1_3),
    unary main_v120 main_v121 (broadcastInDim S32x1x512x512 ![0, 1, 2, 3] bcast_S1x1x1x1_S32x1x512x512_0_1_2_3),
    binary main_v119 main_v121 main_v122 (mulf),
    unary main_v107 main_v123 (broadcastInDim S32x1x512x512 ![0, 1, 2, 3] bcast_S32x1x1x1_S32x1x512x512_0_1_2_3),
    binary main_v122 main_v123 main_v124 (Host.divf),
    nullary main_cst_33 (constant S_ .f32 0x43000000#32),
    unary main_cst_33 main_v125 (broadcastInDim S32x1x512x512 ![] bcast_S_S32x1x512x512),
    binary main_v124 main_v125 main_v126 (addf),
    nullary main_cst_34 (constant S_ .f32 0x437F0000#32),
    unary main_cst_34 main_v127 (broadcastInDim S32x1x512x512 ![] bcast_S_S32x1x512x512),
    binary main_v126 main_v127 main_v128 (Host.divf),
    unary main_v5 main_v129 (broadcastInDim S32x1x512x512 ![0, 2, 3] bcast_S32x512x512_S32x1x512x512_0_2_3),
    unary main_arg3 main_v130 (broadcastInDim S1x1x1x1 ![3] bcast_S1_S1x1x1x1_3),
    unary main_v130 main_v131 (broadcastInDim S32x1x512x512 ![0, 1, 2, 3] bcast_S1x1x1x1_S32x1x512x512_0_1_2_3),
    binary main_v129 main_v131 main_v132 (mulf),
    unary main_v108 main_v133 (broadcastInDim S32x1x512x512 ![0, 1, 2, 3] bcast_S32x1x1x1_S32x1x512x512_0_1_2_3),
    binary main_v132 main_v133 main_v134 (Host.divf),
    nullary main_cst_35 (constant S_ .f32 0x43000000#32),
    unary main_cst_35 main_v135 (broadcastInDim S32x1x512x512 ![] bcast_S_S32x1x512x512),
    binary main_v134 main_v135 main_v136 (addf),
    nullary main_cst_36 (constant S_ .f32 0x437F0000#32),
    unary main_cst_36 main_v137 (broadcastInDim S32x1x512x512 ![] bcast_S_S32x1x512x512),
    binary main_v136 main_v137 main_v138 (Host.divf) ]

/-- What `opsT2` writes, in order. -/
def wT2 : List (Ref sig .tc) :=
  [main_v106, main_v107, main_v108, main_v109, main_v110, main_v111, main_v112, main_v113, main_v114, main_cst_31, main_v115, main_v116, main_cst_32, main_v117, main_v118, main_v119, main_v120, main_v121, main_v122, main_v123, main_v124, main_cst_33, main_v125, main_v126, main_cst_34, main_v127, main_v128, main_v129, main_v130, main_v131, main_v132, main_v133, main_v134, main_cst_35, main_v135, main_v136, main_cst_36, main_v137, main_v138]

/-- The operations of the rescaling that stand in part 3 of @main. -/
abbrev opsT3 : List (HloOp τ sig (Elt F)) :=
  [ nary ![main_v118, main_v128, main_v138] main_v139 (fun u => (concatenate S32x3x512x512 1 [⟨S32x1x512x512, (u 0 : (⟨S32x1x512x512, .f32⟩ : BufTy).Contents (Elt F))⟩, ⟨S32x1x512x512, (u 1 : (⟨S32x1x512x512, .f32⟩ : BufTy).Contents (Elt F))⟩, ⟨S32x1x512x512, (u 2 : (⟨S32x1x512x512, .f32⟩ : BufTy).Contents (Elt F))⟩] concatenates_S32x1x512x512_S32x1x512x512_S32x1x512x512_S32x3x512x512_d1)) ]

/-- What `opsT3` writes, in order. -/
def wT3 : List (Ref sig .tc) :=
  [main_v139]

theorem writes_C0 : (opsC0 (F := F)).map HloOp.writes = wC0.map fun w => {Proc.devRef (τ := τ) .tc w} := rfl
theorem sub_C0 : (opsC0 : List (HloOp τ sig (Elt F))).Forall fun op => op.bufs ⊆ tcRefs τ sig :=
  ⟨unary_bufs_sub .., reshape_bufs_sub .., unary_bufs_sub .., reshape_bufs_sub .., unary_bufs_sub .., reshape_bufs_sub ..⟩
theorem fresh_C0 : ∀ op ∈ (opsC0 : List (HloOp τ sig (Elt F))), op.fresh = ∅ := by
  intro _ h; (repeat (cases h with | head => rfl | tail _ h => ?_)); exact nomatch h
theorem writes_L0 : (opsL0 (F := F)).map HloOp.writes = wL0.map fun w => {Proc.devRef (τ := τ) .tc w} := rfl
theorem sub_L0 : (opsL0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., ternary_bufs_sub .., unary_bufs_sub .., nullary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem fresh_L0 : ∀ op ∈ (opsL0 : List (HloOp τ sig (Elt F))), op.fresh = ∅ := by
  intro _ h; (repeat (cases h with | head => rfl | tail _ h => ?_)); exact nomatch h
theorem writes_A0 : (opsA0 (F := F)).map HloOp.writes = wA0.map fun w => {Proc.devRef (τ := τ) .tc w} := rfl
theorem sub_A0 : (opsA0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub ..⟩
theorem fresh_A0 : ∀ op ∈ (opsA0 : List (HloOp τ sig (Elt F))), op.fresh = ∅ := by
  intro _ h; (repeat (cases h with | head => rfl | tail _ h => ?_)); exact nomatch h
theorem writes_A1 : (opsA1 (F := F)).map HloOp.writes = wA1.map fun w => {Proc.devRef (τ := τ) .tc w} := rfl
theorem sub_A1 : (opsA1 : List (HloOp τ sig (Elt F))).Forall fun op => op.bufs ⊆ tcRefs τ sig :=
  ⟨unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., ternary_bufs_sub .., unary_bufs_sub .., nullary_bufs_sub .., unary_bufs_sub .., unary_bufs_sub .., unary_bufs_sub .., unary_bufs_sub .., binary_bufs_sub .., unary_bufs_sub .., nullary_bufs_sub .., binary_bufs_sub .., unary_bufs_sub .., unary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem fresh_A1 : ∀ op ∈ (opsA1 : List (HloOp τ sig (Elt F))), op.fresh = ∅ := by
  intro _ h; (repeat (cases h with | head => rfl | tail _ h => ?_)); exact nomatch h
theorem writes_B1 : (opsB1 (F := F)).map HloOp.writes = wB1.map fun w => {Proc.devRef (τ := τ) .tc w} := rfl
theorem sub_B1 : (opsB1 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., ternary_bufs_sub .., unary_bufs_sub .., nullary_bufs_sub ..⟩
theorem fresh_B1 : ∀ op ∈ (opsB1 : List (HloOp τ sig (Elt F))), op.fresh = ∅ := by
  intro _ h; (repeat (cases h with | head => rfl | tail _ h => ?_)); exact nomatch h
theorem writes_B2 : (opsB2 (F := F)).map HloOp.writes = wB2.map fun w => {Proc.devRef (τ := τ) .tc w} := rfl
theorem sub_B2 : (opsB2 : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., binary_bufs_sub .., unary_bufs_sub .., unary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩
theorem fresh_B2 : ∀ op ∈ (opsB2 : List (HloOp τ sig (Elt F))), op.fresh = ∅ := by
  intro _ h; (repeat (cases h with | head => rfl | tail _ h => ?_)); exact nomatch h
theorem writes_T2 : (opsT2 (F := F)).map HloOp.writes = wT2.map fun w => {Proc.devRef (τ := τ) .tc w} := rfl
theorem sub_T2 : (opsT2 : List (HloOp τ sig (Elt F))).Forall fun op => op.bufs ⊆ tcRefs τ sig :=
  ⟨reshape_bufs_sub .., reshape_bufs_sub .., reshape_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub ..⟩
theorem fresh_T2 : ∀ op ∈ (opsT2 : List (HloOp τ sig (Elt F))), op.fresh = ∅ := by
  intro _ h; (repeat (cases h with | head => rfl | tail _ h => ?_)); exact nomatch h
theorem writes_T3 : (opsT3 (F := F)).map HloOp.writes = wT3.map fun w => {Proc.devRef (τ := τ) .tc w} := rfl
theorem sub_T3 : (opsT3 : List (HloOp τ sig (Elt F))).Forall fun op => op.bufs ⊆ tcRefs τ sig :=
  nary_bufs_sub ..
theorem fresh_T3 : ∀ op ∈ (opsT3 : List (HloOp τ sig (Elt F))), op.fresh = ∅ := by
  intro _ h; (repeat (cases h with | head => rfl | tail _ h => ?_)); exact nomatch h

/-- The four printed parts, each the line of its operations. -/
theorem part0_eq (d : Dev nD) : main_part0 (F := F) d = seq (opsC0 ++ (opsL0 ++ opsA0)) := rfl
theorem part1_eq (d : Dev nD) : main_part1 (F := F) d = seq (opsA1 ++ opsB1) := rfl
theorem part2_eq (d : Dev nD) : main_part2 (F := F) d = seq (opsB2 ++ opsT2) := rfl
theorem part3_eq (d : Dev nD) : main_part3 (F := F) d = seq opsT3 := rfl

/-- All of @main's operations. -/
abbrev ops : List (HloOp τ sig (Elt F)) :=
  (opsC0 ++ (opsL0 ++ opsA0)) ++ ((opsA1 ++ opsB1) ++ ((opsB2 ++ opsT2) ++ opsT3))

/-- @main is the line of its operations. -/
theorem main_eq (d : Dev nD) : main (F := F) d = seq ops := by
  rw [ops, seq_append, seq_append (opsA1 ++ opsB1), seq_append (opsB2 ++ opsT2), ← part0_eq d, ← part1_eq d, ← part2_eq d, ← part3_eq d]
  rfl

theorem scopedRefs_none : (Finset.univ.filter fun b : Ref sig .tc => b.isScoped) = ∅ := by decide
theorem scopedSems_none : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append]
  exact ⟨⟨sub_C0, sub_L0, sub_A0⟩, ⟨sub_A1, sub_B1⟩, ⟨sub_B2, sub_T2⟩, sub_T3⟩

/-- Every operation determines what it writes. -/
theorem ops_fresh : ∀ op ∈ (ops : List (HloOp τ sig (Elt F))), op.fresh = ∅ := by
  intro op h
  simp only [ops, List.mem_append] at h
  rcases h with (h | h | h) | (h | h) | (h | h) | h
  exacts [fresh_C0 op h, fresh_L0 op h, fresh_A0 op h, fresh_A1 op h, fresh_B1 op h, fresh_B2 op h, fresh_T2 op h, fresh_T3 op h]

/-- The contents after a line and then another. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-! ## The values -/

/-- One word at every position of the flattened images. -/
def everyF (w : BitVec 32) : (⟨S32x262144, .f32⟩ : BufTy).Contents (Elt F) :=
  broadcastInDim S32x262144 ![] bcast_S_S32x262144 (constant S_ .f32 w)

def everyI (w : BitVec 32) : (⟨S32x262144, .i32⟩ : BufTy).Contents (Elt F) :=
  broadcastInDim S32x262144 ![] bcast_S_S32x262144 (constantI S_ 32 w)

/-- The bin of every pixel: the floor of (x − lo) / bs clipped to [0, 99], and 100 for a pixel outside [lo, hi]. -/
def bins (lo bs hi : BitVec 32) (x : (⟨S32x262144, .f32⟩ : BufTy).Contents (Elt F)) : (⟨S32x262144, .i32⟩ : BufTy).Contents (Elt F) :=
  select (andi (cmpf .oge x (everyF lo)) (cmpf .ole x (everyF hi)))
    (minsi (everyI (F := F) 99#32) (maxsi (everyI (F := F) 0#32) (fptosi 32 (Host.floor (Host.divf (subf x (everyF lo)) (everyF bs))))))
    (broadcastInDim S32x262144 ![1] bcast_S262144_S32x262144_1 (broadcastInDim S262144 ![] bcast_S_S262144 (constantI S_ 32 100#32)))

/-- How many pixels of an image fall in each of the first 100 bins, as floats. -/
def counts (i : (⟨S32x262144, .i32⟩ : BufTy).Contents (Elt F)) : (⟨S32x100, .f32⟩ : BufTy).Contents (Elt F) :=
  sitofp .f32 (extractStridedSlice S32x100 ![0, 0]
    (Host.reduce IntOp.addi
      (extui 32 (cmpi .eq
        (broadcastInDim S32x262144x101 ![0, 1, 2] bcast_S32x262144x1_S32x262144x101_0_1_2 (broadcastInDim S32x262144x1 ![0, 1] bcast_S32x262144_S32x262144x1_0_1 i))
        (broadcastInDim S32x262144x101 ![0, 1, 2] bcast_S1x1x101_S32x262144x101_0_1_2
          (broadcastInDim S1x1x101 ![1, 2] bcast_S1x101_S1x1x101_1_2 (broadcastInDim S1x101 ![1] bcast_S101_S1x101_1 (iotaInDim S101 32 0))))) natLt_1_32)
      (constantI S_ 32 0#32) reducesTo_S32x262144x101_S32x101_d1 h_S_)
    slices_S32x101_S32x100_0_0)

/-- The bin of the second highest count. -/
def secondBin (h : (⟨S32x100, .f32⟩ : BufTy).Contents (Elt F)) : (⟨S32, .i32⟩ : BufTy).Contents (Elt F) :=
  shapeCast S32 (extractStridedSlice S32x1 ![0, 1] (Host.topK S32x2 1 (FloatOps.cmpfTotal .gt) h sliceFits_S32x100_S32x2).2 slices_S32x2_S32x1_0_1) shapeCasts_S32x1_S32

/-- The bin of the highest count. -/
def firstBin (h : (⟨S32x100, .f32⟩ : BufTy).Contents (Elt F)) : (⟨S32, .i32⟩ : BufTy).Contents (Elt F) :=
  fun j => (Host.argReduce reducer_argmax_f32_i32 h (iotaInDim S32x100 32 1) (constant S_ .f32 0xFF800000#32) (constantI S_ 32 0#32) reducesTo_S32x100_S32_d1 h_S_ j).2

/-- One word per image. -/
def perImage (w : BitVec 32) : (⟨S32, .f32⟩ : BufTy).Contents (Elt F) := broadcastInDim S32 ![] bcast_S_S32 (constant S_ .f32 w)

/-- A bin's middle: lo + (k + 1/2) bs. -/
def middle (lo bs : BitVec 32) (k : (⟨S32, .i32⟩ : BufTy).Contents (Elt F)) : (⟨S32, .f32⟩ : BufTy).Contents (Elt F) :=
  addf (perImage lo) (mulf (addf (sitofp .f32 k) (perImage 0x3F000000#32)) (perImage bs))

/-- One word at every pixel of a channel. -/
def everyPx (w : BitVec 32) : (⟨S32x1x512x512, .f32⟩ : BufTy).Contents (Elt F) :=
  broadcastInDim S32x1x512x512 ![] bcast_S_S32x1x512x512 (constant S_ .f32 w)

/-- A channel rescaled: (x · r / p + a) / q. -/
def rescale (a q : BitVec 32) (x : (⟨S32x512x512, .f32⟩ : BufTy).Contents (Elt F)) (r : (⟨S1, .f32⟩ : BufTy).Contents (Elt F))
    (p : (⟨S32, .f32⟩ : BufTy).Contents (Elt F)) : (⟨S32x1x512x512, .f32⟩ : BufTy).Contents (Elt F) :=
  Host.divf (addf (Host.divf
    (mulf (broadcastInDim S32x1x512x512 ![0, 2, 3] bcast_S32x512x512_S32x1x512x512_0_2_3 x)
      (broadcastInDim S32x1x512x512 ![0, 1, 2, 3] bcast_S1x1x1x1_S32x1x512x512_0_1_2_3 (broadcastInDim S1x1x1x1 ![3] bcast_S1_S1x1x1x1_3 r)))
    (broadcastInDim S32x1x512x512 ![0, 1, 2, 3] bcast_S32x1x1x1_S32x1x512x512_0_1_2_3 (shapeCast S32x1x1x1 p shapeCasts_S32_S32x1x1x1)))
    (everyPx a)) (everyPx q)

/-- A channel's images, flattened. -/
def flat (x : (⟨S32x512x512, .f32⟩ : BufTy).Contents (Elt F)) : (⟨S32x262144, .f32⟩ : BufTy).Contents (Elt F) :=
  shapeCast S32x262144 x shapeCasts_S32x512x512_S32x262144

/-- The three channels of the images. -/
def chanL (x : (⟨S32x3x512x512, .f32⟩ : BufTy).Contents (Elt F)) : (⟨S32x512x512, .f32⟩ : BufTy).Contents (Elt F) :=
  shapeCast S32x512x512 (extractStridedSlice S32x1x512x512 ![0, 0, 0, 0] x slices_S32x3x512x512_S32x1x512x512_0_0_0_0) shapeCasts_S32x1x512x512_S32x512x512
def chanA (x : (⟨S32x3x512x512, .f32⟩ : BufTy).Contents (Elt F)) : (⟨S32x512x512, .f32⟩ : BufTy).Contents (Elt F) :=
  shapeCast S32x512x512 (extractStridedSlice S32x1x512x512 ![0, 1, 0, 0] x slices_S32x3x512x512_S32x1x512x512_0_1_0_0) shapeCasts_S32x1x512x512_S32x512x512
def chanB (x : (⟨S32x3x512x512, .f32⟩ : BufTy).Contents (Elt F)) : (⟨S32x512x512, .f32⟩ : BufTy).Contents (Elt F) :=
  shapeCast S32x512x512 (extractStridedSlice S32x1x512x512 ![0, 2, 0, 0] x slices_S32x3x512x512_S32x1x512x512_0_2_0_0) shapeCasts_S32x1x512x512_S32x512x512

/-- The three channels side by side. -/
def glue (a b c : (⟨S32x1x512x512, .f32⟩ : BufTy).Contents (Elt F)) : (⟨S32x3x512x512, .f32⟩ : BufTy).Contents (Elt F) :=
  concatenate S32x3x512x512 1 [⟨S32x1x512x512, a⟩, ⟨S32x1x512x512, b⟩, ⟨S32x1x512x512, c⟩] concatenates_S32x1x512x512_S32x1x512x512_S32x1x512x512_S32x3x512x512_d1

/-! ## What each stage leaves -/

theorem stage_C (V : Valuation τ sig (Elt F)) :
    after opsC0 V (main_v1 : DevRef τ sig) = chanL (V (main_arg0 : DevRef τ sig))
    ∧ after opsC0 V (main_v3 : DevRef τ sig) = chanA (V (main_arg0 : DevRef τ sig))
    ∧ after opsC0 V (main_v5 : DevRef τ sig) = chanB (V (main_arg0 : DevRef τ sig)) := by
  refine ⟨?_, ?_, ?_⟩ <;> (after_reads_simp; rfl)

theorem stage_L (V : Valuation τ sig (Elt F)) :
    after opsL0 V (main_v39 : DevRef τ sig)
      = middle 0x00000000#32 0x3F800000#32 (secondBin (counts (bins 0x00000000#32 0x3F800000#32 0x42C80000#32 (flat (V (main_v1 : DevRef τ sig)))))) := by
  after_reads_simp; rfl

theorem stage_A (V : Valuation τ sig (Elt F)) :
    after (opsA0 ++ opsA1) V (main_v72 : DevRef τ sig)
      = middle 0xC3000000#32 0x40233333#32 (firstBin (counts (bins 0xC3000000#32 0x40233333#32 0x42FE0000#32 (flat (V (main_v3 : DevRef τ sig)))))) := by
  after_reads_simp; rfl

theorem stage_B (V : Valuation τ sig (Elt F)) :
    after (opsB1 ++ opsB2) V (main_v105 : DevRef τ sig)
      = middle 0xC3000000#32 0x40233333#32 (firstBin (counts (bins 0xC3000000#32 0x40233333#32 0x42FE0000#32 (flat (V (main_v5 : DevRef τ sig)))))) := by
  after_reads_simp; rfl

theorem stage_T (V : Valuation τ sig (Elt F)) :
    after (opsT2 ++ opsT3) V (main_v139 : DevRef τ sig)
      = glue (rescale 0x42C80000#32 0x43480000#32 (V (main_v1 : DevRef τ sig)) (V (main_arg1 : DevRef τ sig)) (V (main_v39 : DevRef τ sig)))
          (rescale 0x43000000#32 0x437F0000#32 (V (main_v3 : DevRef τ sig)) (V (main_arg2 : DevRef τ sig)) (V (main_v72 : DevRef τ sig)))
          (rescale 0x43000000#32 0x437F0000#32 (V (main_v5 : DevRef τ sig)) (V (main_arg3 : DevRef τ sig)) (V (main_v105 : DevRef τ sig))) := by
  after_reads_simp; rfl

end Cert.Proof.Ref

end
-- ==== Proof.RefMain.lean ====
/-
  The reference's run, whole: the arguments unchanged, every semaphore at zero, the result `refOut` of the arguments.
-/
module

public import proofs.«01_k».proof.Proof.RefRun

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The middle of the lightness channel's second highest bin, per image. -/
def peakL (x : (⟨S32x3x512x512, .f32⟩ : BufTy).Contents (Elt F)) : (⟨S32, .f32⟩ : BufTy).Contents (Elt F) :=
  middle 0x00000000#32 0x3F800000#32 (secondBin (counts (bins 0x00000000#32 0x3F800000#32 0x42C80000#32 (flat (chanL x)))))

/-- The middle of a colour channel's highest bin, per image. -/
def peakC (c : (⟨S32x512x512, .f32⟩ : BufTy).Contents (Elt F)) : (⟨S32, .f32⟩ : BufTy).Contents (Elt F) :=
  middle 0xC3000000#32 0x40233333#32 (firstBin (counts (bins 0xC3000000#32 0x40233333#32 0x42FE0000#32 (flat c))))

/-- The reference's result. -/
def refOut (x : (⟨S32x3x512x512, .f32⟩ : BufTy).Contents (Elt F)) (r₁ r₂ r₃ : (⟨S1, .f32⟩ : BufTy).Contents (Elt F)) :
    (⟨S32x3x512x512, .f32⟩ : BufTy).Contents (Elt F) :=
  glue (rescale 0x42C80000#32 0x43480000#32 (chanL x) r₁ (peakL x))
    (rescale 0x43000000#32 0x437F0000#32 (chanA x) r₂ (peakC (chanA x)))
    (rescale 0x43000000#32 0x437F0000#32 (chanB x) r₃ (peakC (chanB x)))

/-- A line leaves what it does not write: stated for the stages in turn. -/
theorem keep_C {r : Ref sig .tc} (h : r ∉ wC0) (V : Valuation τ sig (Elt F)) :
    after opsC0 V (Proc.devRef .tc r) = V (Proc.devRef .tc r) := after_unwritten _ writes_C0 h V
theorem keep_L {r : Ref sig .tc} (h : r ∉ wL0) (V : Valuation τ sig (Elt F)) :
    after opsL0 V (Proc.devRef .tc r) = V (Proc.devRef .tc r) := after_unwritten _ writes_L0 h V
theorem keep_A {r : Ref sig .tc} (h : r ∉ wA0) (h' : r ∉ wA1) (V : Valuation τ sig (Elt F)) :
    after (opsA0 ++ opsA1) V (Proc.devRef .tc r) = V (Proc.devRef .tc r) := by
  rw [after_two, after_unwritten _ writes_A1 h', after_unwritten _ writes_A0 h]
theorem keep_B {r : Ref sig .tc} (h : r ∉ wB1) (h' : r ∉ wB2) (V : Valuation τ sig (Elt F)) :
    after (opsB1 ++ opsB2) V (Proc.devRef .tc r) = V (Proc.devRef .tc r) := by
  rw [after_two, after_unwritten _ writes_B2 h', after_unwritten _ writes_B1 h]
theorem keep_T {r : Ref sig .tc} (h : r ∉ wT2) (h' : r ∉ wT3) (V : Valuation τ sig (Elt F)) :
    after (opsT2 ++ opsT3) V (Proc.devRef .tc r) = V (Proc.devRef .tc r) := by
  rw [after_two, after_unwritten _ writes_T3 h', after_unwritten _ writes_T2 h]

/-- The line, stage by stage. -/
theorem after_ops (V : Valuation τ sig (Elt F)) :
    after ops V = after (opsT2 ++ opsT3) (after (opsB1 ++ opsB2) (after (opsA0 ++ opsA1) (after opsL0 (after opsC0 V)))) := by
  simp only [ops, after_two]

/-- What @main leaves in its result's buffer. -/
theorem out_eq (V : Valuation τ sig (Elt F)) :
    after ops V (main_v139 : DevRef τ sig)
      = refOut (V (main_arg0 : DevRef τ sig)) (V (main_arg1 : DevRef τ sig)) (V (main_arg2 : DevRef τ sig)) (V (main_arg3 : DevRef τ sig)) := by
  have hC := stage_C V
  rw [after_ops, stage_T, stage_B]
  have kB : ∀ r : Ref sig .tc, r ∉ wB1 → r ∉ wB2 → ∀ U : Valuation τ sig (Elt F), after (opsB1 ++ opsB2) U (Proc.devRef .tc r) = U (Proc.devRef .tc r) :=
    fun r h h' U => keep_B h h' U
  rw [kB main_v1 (by decide) (by decide), kB main_v3 (by decide) (by decide), kB main_v5 (by decide) (by decide),
    kB main_arg1 (by decide) (by decide), kB main_arg2 (by decide) (by decide), kB main_arg3 (by decide) (by decide),
    kB main_v39 (by decide) (by decide), kB main_v72 (by decide) (by decide), stage_A]
  have kA : ∀ r : Ref sig .tc, r ∉ wA0 → r ∉ wA1 → ∀ U : Valuation τ sig (Elt F), after (opsA0 ++ opsA1) U (Proc.devRef .tc r) = U (Proc.devRef .tc r) :=
    fun r h h' U => keep_A h h' U
  rw [kA main_v1 (by decide) (by decide), kA main_v3 (by decide) (by decide), kA main_v5 (by decide) (by decide),
    kA main_arg1 (by decide) (by decide), kA main_arg2 (by decide) (by decide), kA main_arg3 (by decide) (by decide),
    kA main_v39 (by decide) (by decide), stage_L]
  have kL : ∀ r : Ref sig .tc, r ∉ wL0 → ∀ U : Valuation τ sig (Elt F), after opsL0 U (Proc.devRef .tc r) = U (Proc.devRef .tc r) :=
    fun r h U => keep_L h U
  rw [kL main_v1 (by decide), kL main_v3 (by decide), kL main_v5 (by decide),
    kL main_arg1 (by decide), kL main_arg2 (by decide), kL main_arg3 (by decide), hC.1, hC.2.1, hC.2.2]
  have kC : ∀ r : Ref sig .tc, r ∉ wC0 → ∀ U : Valuation τ sig (Elt F), after opsC0 U (Proc.devRef .tc r) = U (Proc.devRef .tc r) :=
    fun r h U => keep_C h U
  rw [kC main_arg1 (by decide), kC main_arg2 (by decide), kC main_arg3 (by decide)]
  rfl

/-- A buffer no operation writes keeps its contents. -/
theorem keep_all {r : Ref sig .tc} (hC : r ∉ wC0) (hL : r ∉ wL0) (hA : r ∉ wA0) (hA' : r ∉ wA1) (hB : r ∉ wB1) (hB' : r ∉ wB2)
    (hT : r ∉ wT2) (hT' : r ∉ wT3) (V : Valuation τ sig (Elt F)) : after ops V (Proc.devRef .tc r) = V (Proc.devRef .tc r) := by
  rw [after_ops, keep_T hT hT', keep_B hB hB', keep_A hA hA', keep_L hL, keep_C hC]

/-- From any memory with zero counters the reference's run ends with its arguments unchanged and its result at `refOut`. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v139)
        = refOut (m ((c.tc : Thread nD τ).loc main_arg0)) (m ((c.tc : Thread nD τ).loc main_arg1))
            (m ((c.tc : Thread nD τ).loc main_arg2)) (m ((c.tc : Thread nD τ).loc main_arg3)) :=
  (θ_run defs _ _).mono (fun _ h c =>
      ⟨⟨(h c main_arg0).trans (keep_all (by decide) (by decide) (by decide) (by decide) (by decide) (by decide) (by decide) (by decide) _),
        (h c main_arg1).trans (keep_all (by decide) (by decide) (by decide) (by decide) (by decide) (by decide) (by decide) (by decide) _),
        (h c main_arg2).trans (keep_all (by decide) (by decide) (by decide) (by decide) (by decide) (by decide) (by decide) (by decide) _),
        (h c main_arg3).trans (keep_all (by decide) (by decide) (by decide) (by decide) (by decide) (by decide) (by decide) (by decide) _)⟩,
        (h c main_v139).trans (out_eq _)⟩)
    (run_seq scopedRefs_none scopedSems_none defs main (fun _ => ops) main_eq (fun _ => ops_sub) m ρ (fun _ => ops_fresh))

end Cert.Proof.Ref

end
-- ==== Proof.Scan.lean ====
/-
  The places of the largest and the second largest of a list of counts, the first among equals, named by what they satisfy
  (`First`, `Second`), and the scan that finds both in one pass (`top2_spec`).
-/
module

public import proofs.«01_k».proof.Proof.Hist

@[expose] public section

namespace Cert.Proof.Scan

open Cert.Proof.Hist
open Idealize.ShloMosaic

/-- `a` is the first place of the largest of the first `n` counts. -/
def First (c : ℕ → ℕ) (n a : ℕ) : Prop := a < n ∧ (∀ k < n, c k ≤ c a) ∧ ∀ k < a, c k < c a

/-- `b` is the first place of the largest of the first `n` counts other than that at `a`. -/
def Second (c : ℕ → ℕ) (n a b : ℕ) : Prop :=
  b < n ∧ b ≠ a ∧ (∀ k < n, k ≠ a → c k ≤ c b) ∧ ∀ k < b, k ≠ a → c k < c b

theorem First.unique {c : ℕ → ℕ} {n a b : ℕ} (ha : First c n a) (hb : First c n b) : a = b := by
  obtain ⟨a1, a2, a3⟩ := ha
  obtain ⟨b1, b2, b3⟩ := hb
  rcases Nat.lt_trichotomy a b with h | h | h
  · have := b3 a h; have := a2 b b1; omega
  · exact h
  · have := a3 b h; have := b2 a a1; omega

theorem Second.unique {c : ℕ → ℕ} {n a b b' : ℕ} (hb : Second c n a b) (hb' : Second c n a b') : b = b' := by
  obtain ⟨b1, b0, b2, b3⟩ := hb
  obtain ⟨d1, d0, d2, d3⟩ := hb'
  rcases Nat.lt_trichotomy b b' with h | h | h
  · have := d3 b h b0; have := b2 b' d1 d0; omega
  · exact h
  · have := b3 b' h d0; have := d2 b b1 b0; omega

/-- One step of the scan in a state that has seen something, told by the three cases of the new word. -/
theorem step_cases (k x : BitVec 32) (s : W4) :
    top2Step k x s = if s.1.toInt < x.toInt then (x, k, s.1, s.2.1)
      else if s.2.2.1.toInt < x.toInt then (s.1, s.2.1, x, k) else s := by
  have h2 : ∀ b : BitVec 1, b = 0#1 ∨ b = 1#1 := by decide
  have hc : ∀ y z : BitVec 32, (Scalar.cmpi .sgt y z : BitVec 1) = if z.toInt < y.toInt then 1#1 else 0#1 := by
    intro y z
    show BitVec.ofBool (z.slt y) = _
    rw [BitVec.slt]
    by_cases h : z.toInt < y.toInt <;> simp [h]
  unfold top2Step
  simp only [hc]
  by_cases h1 : s.1.toInt < x.toInt
  · simp [h1, Scalar.select]
  · by_cases h3 : s.2.2.1.toInt < x.toInt
    · simp [h1, h3, Scalar.select, Scalar.andi, Scalar.xori, IntOp.andi, IntOp.xori]
    · simp [h1, h3, Scalar.select, Scalar.andi, Scalar.xori, IntOp.andi, IntOp.xori]

theorem toInt_small {n : ℕ} (h : n < 2 ^ 31) : (BitVec.ofNat 32 n).toInt = n := by
  rw [BitVec.toInt_eq_toNat_cond, BitVec.toNat_ofNat, Nat.mod_eq_of_lt (by omega), if_pos (by omega)]

theorem iv_eq (n : ℕ) : Scf.iv 0#32 1#32 n = BitVec.ofNat 32 n := by
  unfold Scf.iv; simp

/-- What the scan holds after `n` counts: the first place of the largest with its count, and, from the second count on, the
    first place of the largest other. -/
theorem top2_inv (c : ℕ → ℕ) (hc : ∀ k, c k < 2 ^ 31) : ∀ n : ℕ, n + 1 < 2 ^ 31 → ∃ a b : ℕ,
    First c (n + 1) a ∧ (n = 0 ∨ Second c (n + 1) a b) ∧ (n = 0 → a = 0 ∧ b = 0)
      ∧ top2 (fun k => BitVec.ofNat 32 (c k)) (n + 1)
        = (BitVec.ofNat 32 (c a), BitVec.ofNat 32 a, if n = 0 then 4294967295#32 else BitVec.ofNat 32 (c b), BitVec.ofNat 32 b)
  | 0, _ => by
    refine ⟨0, 0, ⟨by omega, fun k hk => ?_, fun k hk => by omega⟩, Or.inl rfl, fun _ => ⟨rfl, rfl⟩, ?_⟩
    · obtain rfl : k = 0 := by omega
      exact le_rfl
    · show top2Step (Scf.iv 0#32 1#32 0) (BitVec.ofNat 32 (c 0)) (4294967295#32, 0#32, 4294967295#32, 0#32) = _
      have h1 : (4294967295#32 : BitVec 32).toInt = -1 := by decide
      rw [step_cases, if_pos (by rw [toInt_small (hc 0), h1]; omega), iv_eq]
      rfl
  | n + 1, hn => by
    obtain ⟨a, b, ⟨a1, a2, a3⟩, hb, h0, ht⟩ := top2_inv c hc n (by omega)
    have h1 : (4294967295#32 : BitVec 32).toInt = -1 := by decide
    show ∃ a b : ℕ, _ ∧ _ ∧ _ ∧ top2Step (Scf.iv 0#32 1#32 (n + 1)) (BitVec.ofNat 32 (c (n + 1))) (top2 (fun k => BitVec.ofNat 32 (c k)) (n + 1)) = _
    rw [ht, step_cases, iv_eq]
    simp only [toInt_small (hc _)]
    by_cases hA : (c a : ℤ) < c (n + 1)
    · refine ⟨n + 1, a, ⟨by omega, fun k hk => ?_, fun k hk => ?_⟩, Or.inr ⟨by omega, by omega, fun k hk hne => a2 k (by omega), fun k hk _ => a3 k hk⟩,
        fun h => absurd h (Nat.succ_ne_zero n), ?_⟩
      · rcases Nat.lt_or_ge k (n + 1) with h | h
        · have := a2 k h; omega
        · obtain rfl : k = n + 1 := by omega
          exact le_rfl
      · have := a2 k hk; omega
      · rw [if_pos hA, if_neg (Nat.succ_ne_zero n)]
    · rw [if_neg hA]
      have hF : First c (n + 1 + 1) a := ⟨by omega, fun k hk => by
        rcases Nat.lt_or_ge k (n + 1) with h | h
        · exact a2 k h
        · obtain rfl : k = n + 1 := by omega
          omega, a3⟩
      by_cases hn0 : n = 0
      · subst hn0
        obtain ⟨rfl, rfl⟩ := h0 rfl
        refine ⟨0, 1, hF, Or.inr ⟨by omega, by omega, fun k hk hne => ?_, fun k hk hne => by omega⟩, fun h => absurd h (by omega), ?_⟩
        · obtain rfl : k = 1 := by omega
          exact le_rfl
        · rw [if_pos rfl, if_pos (by rw [h1]; omega)]; rfl
      · obtain ⟨b1, b0, b2, b3⟩ := hb.resolve_left hn0
        rw [if_neg hn0]
        simp only [toInt_small (hc _)]
        by_cases hB : (c b : ℤ) < c (n + 1)
        · refine ⟨a, n + 1, hF, Or.inr ⟨by omega, by omega, fun k hk hne => ?_, fun k hk hne => ?_⟩, fun h => absurd h (Nat.succ_ne_zero n), ?_⟩
          · rcases Nat.lt_or_ge k (n + 1) with h | h
            · have := b2 k h hne; omega
            · obtain rfl : k = n + 1 := by omega
              exact le_rfl
          · have := b2 k hk hne; omega
          · rw [if_pos hB, if_neg (Nat.succ_ne_zero n)]
        · refine ⟨a, b, hF, Or.inr ⟨by omega, b0, fun k hk hne => ?_, b3⟩, fun h => absurd h (Nat.succ_ne_zero n), ?_⟩
          · rcases Nat.lt_or_ge k (n + 1) with h | h
            · exact b2 k h hne
            · obtain rfl : k = n + 1 := by omega
              omega
          · rw [if_neg hB, if_neg (Nat.succ_ne_zero n)]

/-- The scan's second word is the first place of the largest count, its fourth the first place of the largest other. -/
theorem top2_spec (c : ℕ → ℕ) (hc : ∀ k, c k < 2 ^ 31) (n : ℕ) (h1 : 1 < n) (hn : n < 2 ^ 31) : ∃ a b : ℕ,
    First c n a ∧ Second c n a b ∧ (top2 (fun k => BitVec.ofNat 32 (c k)) n).2.1 = BitVec.ofNat 32 a
      ∧ (top2 (fun k => BitVec.ofNat 32 (c k)) n).2.2.2 = BitVec.ofNat 32 b := by
  obtain ⟨m, rfl⟩ : ∃ m, n = m + 1 := ⟨n - 1, by omega⟩
  obtain ⟨a, b, ha, hb, -, ht⟩ := top2_inv c hc m hn
  exact ⟨a, b, ha, hb.resolve_left (by omega), by rw [ht], by rw [ht]⟩

end Cert.Proof.Scan
-- ==== Proof.Bins.lean ====
/-
  The reference's bins and counts at the extended reals: the words that stand for numbers read as those numbers, a value in
  its range falls in the bin the kernel computes for it (`bins_apply`), and the count of a bin is the number of pixels in it
  (`counts_apply`).
-/
module

public import proofs.«01_k».proof.Proof.RefMain
public import proofs.«01_k».proof.Proof.Scan
public import Idealize.ShloMosaic.Lib.ValueIdxCoords
public import Idealize.ShloMosaic.PureOps.Ideal.Laws

@[expose] public section

noncomputable section

namespace Cert.Proof.Ref

open Cert.ReferenceIdeal Cert.ReferenceIdeal.Gen Cert.Proof.Hist
open Idealize.ShloMosaic Idealize.ShloMosaic.ValueIdx

/-! ## The words that stand for numbers -/

/-- The programs' literals, as the numbers they are. -/
theorem lit_0 : Ideal.ofBits .f32 0x00000000#32 = ((0 : ℝ) : EReal) := by
  simp [Ideal.ofBits, Ideal.ieee, -EReal.coe_mul]
theorem lit_half : Ideal.ofBits .f32 0x3F000000#32 = ((1 / 2 : ℝ) : EReal) := by
  simp [Ideal.ofBits, Ideal.ieee, -EReal.coe_mul]; norm_num
theorem lit_1 : Ideal.ofBits .f32 0x3F800000#32 = ((1 : ℝ) : EReal) := by
  simp [Ideal.ofBits, Ideal.ieee, -EReal.coe_mul]; norm_num
theorem lit_100 : Ideal.ofBits .f32 0x42C80000#32 = ((100 : ℝ) : EReal) := by
  simp [Ideal.ofBits, Ideal.ieee, -EReal.coe_mul]; norm_num
theorem lit_200 : Ideal.ofBits .f32 0x43480000#32 = ((200 : ℝ) : EReal) := by
  simp [Ideal.ofBits, Ideal.ieee, -EReal.coe_mul]; norm_num
theorem lit_m128 : Ideal.ofBits .f32 0xC3000000#32 = ((-128 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_255 : Ideal.ofBits .f32 0x437F0000#32 = ((255 : ℝ) : EReal) := by
  simp [Ideal.ofBits, Ideal.ieee, -EReal.coe_mul]; norm_num
/-- The single-precision number nearest 2.55. -/
theorem lit_bs : Ideal.ofBits .f32 0x40233333#32 = ((10695475 / 4194304 : ℝ) : EReal) := by
  simp [Ideal.ofBits, Ideal.ieee, -EReal.coe_mul]; norm_num

/-! ## The channels, read -/

/-- Pixel `p` of a flattened image is at row `p / 512`, column `p % 512`. -/
theorem flat_apply (c : (⟨S32x512x512, .f32⟩ : BufTy).Contents (Elt Ideal)) (w : Fin 32) (p : Fin 262144) :
    flat (F := Ideal) c (ix2 w p) = c (ix3 w ⟨p.val / 512, by have := p.isLt; omega⟩ ⟨p.val % 512, Nat.mod_lt _ (by decide)⟩) := by
  refine congrArg c (Shape.reshapeEquiv_eq_of_rowMajor _ ?_)
  rw [Shape.rowMajor_val_three, Shape.rowMajor_val_two]
  show (w.val * 512 + p.val / 512) * 512 + p.val % 512 = w.val * 262144 + p.val
  omega

/-- Channel `k` of the images, read. -/
theorem chan_apply (k : ℕ) (hk : k < 3) (hs : S32x3x512x512.Slices ![0, k, 0, 0] S32x1x512x512)
    (x : (⟨S32x3x512x512, .f32⟩ : BufTy).Contents (Elt Ideal)) (w : Fin 32) (a b : Fin 512) :
    shapeCast S32x512x512 (extractStridedSlice S32x1x512x512 ![0, k, 0, 0] x hs) shapeCasts_S32x1x512x512_S32x512x512 (ix3 w a b)
      = x (ix4 w ⟨k, hk⟩ a b) := by
  have e1 : shapeCast S32x512x512 (extractStridedSlice S32x1x512x512 ![0, k, 0, 0] x hs) shapeCasts_S32x1x512x512_S32x512x512 (ix3 w a b)
      = extractStridedSlice S32x1x512x512 ![0, k, 0, 0] x hs (ix4 w 0 a b) := by
    refine congrArg _ (Shape.reshapeEquiv_eq_of_rowMajor _ ?_)
    rw [Shape.rowMajor_val_four, Shape.rowMajor_val_three]
    show ((w.val * 1 + 0) * 512 + a.val) * 512 + b.val = (w.val * 512 + a.val) * 512 + b.val
    omega
  rw [e1]
  refine congrArg x ?_
  funext c
  fin_cases c
  · exact Fin.ext (Nat.zero_add _)
  · exact Fin.ext (Nat.add_zero _)
  · exact Fin.ext (Nat.zero_add _)
  · exact Fin.ext (Nat.zero_add _)

/-! ## The bin of one value -/

/-- A word held between 0 and 99, whichever way round the two bounds and the word stand. -/
theorem clamp_swap (w : BitVec 32) : IntOp.minsi 99#32 (IntOp.maxsi 0#32 w) = clamp w := by
  apply BitVec.eq_of_toInt_eq
  rw [clamp_toInt]
  unfold IntOp.minsi IntOp.maxsi
  simp only [BitVec.slt, decide_eq_true_eq]
  split_ifs <;> simp_all <;> omega

/-- Rounding down a real number that is not negative, before dropping its fraction, changes nothing. -/
theorem fptosi_floor {q : ℝ} (hq : 0 ≤ q) :
    Ideal.fptosi 32 (Ideal.liftRound Int.floor (q : EReal)) = Ideal.fptosi 32 (q : EReal) := by
  have h : (0 : ℝ) ≤ ((⌊q⌋ : ℤ) : ℝ) := by exact_mod_cast Int.floor_nonneg.mpr hq
  unfold Ideal.fptosi
  rw [Ideal.liftRound_coe, Ideal.toIntClamped_coe, Ideal.toIntClamped_coe, if_pos hq, if_pos h, Int.floor_intCast]

/-- An extended real between two real numbers is a real number. -/
theorem real_of_between {v : EReal} {a b : ℝ} (ha : (a : EReal) ≤ v) (hb : v ≤ (b : EReal)) :
    ∃ r : ℝ, v = (r : EReal) ∧ a ≤ r ∧ r ≤ b := by
  induction v using EReal.rec with
  | bot => exact absurd ha (by simp)
  | top => exact absurd hb (by simp)
  | coe r => exact ⟨r, rfl, by exact_mod_cast ha, by exact_mod_cast hb⟩

/-- A pixel whose value is in the range falls in the bin the kernel computes for that value. -/
theorem bins_apply (lo bs hi : BitVec 32) (l b h : ℝ) (hlo : Ideal.ofBits .f32 lo = (l : EReal)) (hbs : Ideal.ofBits .f32 bs = (b : EReal))
    (hhi : Ideal.ofBits .f32 hi = (h : EReal)) (hb : 0 < b)
    (x : (⟨S32x262144, .f32⟩ : BufTy).Contents (Elt Ideal)) (j : S32x262144.Idx)
    (h1 : (l : EReal) ≤ x j) (h2 : x j ≤ (h : EReal)) :
    bins (F := Ideal) lo bs hi x j = bw (F := Ideal) lo bs (x j) := by
  have e1 : bins (F := Ideal) lo bs hi x j
      = Scalar.select (IntOp.andi (Ideal.cmp .oge (x j) (Ideal.ofBits .f32 lo)) (Ideal.cmp .ole (x j) (Ideal.ofBits .f32 hi)))
        (IntOp.minsi 99#32 (IntOp.maxsi 0#32 (Ideal.fptosi 32 (Ideal.liftRound Int.floor
          (Ideal.div ((x j : EReal) - Ideal.ofBits .f32 lo) (Ideal.ofBits .f32 bs)))))) 100#32 := rfl
  have e2 : bw (F := Ideal) lo bs (x j)
      = clamp (Ideal.fptosi 32 (Ideal.div ((x j : EReal) - Ideal.ofBits .f32 lo) (Ideal.ofBits .f32 bs))) := rfl
  obtain ⟨r, hr, hr1, hr2⟩ := real_of_between h1 h2
  have c1 : Ideal.cmp .oge (x j) (Ideal.ofBits .f32 lo) = 1#1 := by
    rw [hlo]; simp [Ideal.cmp, h1]
  have c2 : Ideal.cmp .ole (x j) (Ideal.ofBits .f32 hi) = 1#1 := by
    rw [hhi]; simp [Ideal.cmp, h2]
  have q : Ideal.div ((x j : EReal) - Ideal.ofBits .f32 lo) (Ideal.ofBits .f32 bs) = (((r - l) * (1 / b) : ℝ) : EReal) := by
    rw [hlo, hbs, hr, Ideal.div_coe hb.ne']
    norm_cast
  have hq : (0 : ℝ) ≤ (r - l) * (1 / b) := mul_nonneg (by linarith) (by positivity)
  rw [e1, e2, c1, c2, q, fptosi_floor hq, clamp_swap]
  rfl

/-! ## The counts -/

/-- Adding words that each hold a number, from nothing, leaves the sum of the numbers. -/
theorem fold_addi {ι : Type} (s : Finset ι) (x : ι → BitVec 32) (g : ι → ℕ) (h : ∀ p, x p = BitVec.ofNat 32 (g p)) :
    s.fold IntOp.addi 0#32 x = BitVec.ofNat 32 (∑ p ∈ s, g p) := by
  induction s using Finset.cons_induction with
  | empty => rfl
  | cons a s ha ih =>
    rw [Finset.fold_cons, Finset.sum_cons, ih, h, ofNat_add]
    rfl

/-- Summing over the pixels leaves one count per image and bin. -/
theorem reduces_pixels : S32x262144x101.Reduces [1] S32x101 := by decide

/-- The word a comparison leaves, widened, is one or nothing. -/
theorem ext_eq (a b : BitVec 32) : ((IntOp.cmpi .eq a b).setWidth 32 : BitVec 32) = BitVec.ofNat 32 (if a = b then 1 else 0) := by
  have e : IntOp.cmpi .eq a b = BitVec.ofBool (a == b) := rfl
  by_cases h : a = b
  · subst h; rw [e, if_pos rfl]; simp
  · rw [e, if_neg h, beq_false_of_ne h]; rfl

/-- The first hundred of 101 columns, read. -/
theorem slice_apply (x : IVec S32x101 32) (w : Fin 32) (k : Fin 100) :
    extractStridedSlice S32x100 ![0, 0] x slices_S32x101_S32x100_0_0 (ix2 w k) = x (ix2 w ⟨k.val, by have := k.isLt; omega⟩) :=
  congrArg x (by funext a; fin_cases a <;> exact Fin.ext (Nat.zero_add _))

/-- An integer made a float over the reals is that integer. -/
theorem sitofp_apply (x : IVec S32x100 32) (j : S32x100.Idx) :
    (sitofp .f32 x : FVec Ideal S32x100 .f32) j = ((((x j).toInt : ℤ) : ℝ) : EReal) := rfl

/-- The count of bin `k` of image `w` is the number of the image's pixels in it. -/
theorem counts_apply (i : (⟨S32x262144, .i32⟩ : BufTy).Contents (Elt Ideal)) (w : Fin 32) (k : Fin 100) :
    counts (F := Ideal) i (ix2 w k)
      = (((∑ p : Fin 262144, if (i (ix2 w p) : BitVec 32) = BitVec.ofNat 32 k.val then 1 else 0 : ℕ) : ℝ) : EReal) := by
  set n : ℕ := ∑ p : Fin 262144, if (i (ix2 w p) : BitVec 32) = BitVec.ofNat 32 k.val then 1 else 0 with hn
  have hle : n ≤ 262144 := by
    refine (Finset.sum_le_card_nsmul _ _ 1 fun p _ => by split <;> simp).trans ?_
    simp
  have e : (extractStridedSlice S32x100 ![0, 0]
    (Host.reduce IntOp.addi
      (extui 32 (cmpi .eq
        (broadcastInDim S32x262144x101 ![0, 1, 2] bcast_S32x262144x1_S32x262144x101_0_1_2 (broadcastInDim S32x262144x1 ![0, 1] bcast_S32x262144_S32x262144x1_0_1 i))
        (broadcastInDim S32x262144x101 ![0, 1, 2] bcast_S1x1x101_S32x262144x101_0_1_2
          (broadcastInDim S1x1x101 ![1, 2] bcast_S1x101_S1x1x101_1_2 (broadcastInDim S1x101 ![1] bcast_S101_S1x101_1 (iotaInDim S101 32 0))))) natLt_1_32)
      (constantI S_ 32 0#32) reducesTo_S32x262144x101_S32x101_d1 h_S_)
    slices_S32x101_S32x100_0_0 : IVec S32x100 32) (ix2 w k) = BitVec.ofNat 32 n := by
    refine (slice_apply _ w k).trans ?_
    rw [Host.reduce_eq_fold_single _ _ _ _ reduces_pixels]
    refine fold_addi _ _ _ fun p => ?_
    refine (ext_eq _ _).trans ?_
    have a1 : ∀ j : S32x262144x101.Idx, (broadcastInDim S32x262144x101 ![0, 1, 2] bcast_S32x262144x1_S32x262144x101_0_1_2
        (broadcastInDim S32x262144x1 ![0, 1] bcast_S32x262144_S32x262144x1_0_1 i)) j = i (ix2 (j 0) (j 1)) := fun j =>
      congrArg i (by funext a; fin_cases a <;> rfl)
    have a2 : ∀ j : S32x262144x101.Idx, (broadcastInDim S32x262144x101 ![0, 1, 2] bcast_S1x1x101_S32x262144x101_0_1_2
          (broadcastInDim S1x1x101 ![1, 2] bcast_S1x101_S1x1x101_1_2 (broadcastInDim S1x101 ![1] bcast_S101_S1x101_1 (iotaInDim S101 32 0)))) j
        = BitVec.ofNat 32 (j 2).val := fun j => rfl
    rw [a1, a2]
    have l0 : ∀ j : S32x101.Idx, reduces_pixels.lift j p 0 = j 0 := fun j => rfl
    have l1 : ∀ j : S32x101.Idx, reduces_pixels.lift j p 1 = p := fun j => rfl
    have l2 : ∀ j : S32x101.Idx, reduces_pixels.lift j p 2 = j 1 := fun j => rfl
    rw [l0, l1, l2]
  unfold counts
  rw [sitofp_apply, e]
  clear e hn
  clear_value n
  rw [Scan.toInt_small (Nat.lt_of_le_of_lt hle (by norm_num)), Int.cast_natCast]

end Cert.Proof.Ref

end
-- ==== Proof.Range.lean ====
/-
  The precondition, read at one pixel: the lightness is between 0 and 100, the two colour channels between −128 and 127.
-/
module

public import proofs.«01_k».proof.Pre_in_range
public import proofs.«01_k».proof.Proof.Bins

@[expose] public section

noncomputable section

namespace Cert.Proof

open Cert.Pre_in_range
open Idealize.ShloMosaic Idealize.ShloMosaic.ValueIdx

/-- The shape conditions the precondition's operations take. -/
instance rangeFacts : Cert.Pre_in_range.Facts where
  slices_S32x3x512x512_S32x1x512x512_0_0_0_0 := by decide
  shapeCasts_S32x1x512x512_S32x512x512 := by decide
  slices_S32x3x512x512_S32x2x512x512_0_1_0_0 := by decide
  bcast_S_S32x512x512 := by decide
  reducesTo_S32x512x512_S_d0_1_2 := by decide
  h_S_ := by decide
  bcast_S_S32x2x512x512 := by decide
  reducesTo_S32x2x512x512_S_d0_1_2_3 := by decide

namespace Range

/-- Two bits whose and is one are one. -/
theorem and_one {a b : BitVec 1} (h : IntOp.andi a b = 1#1) : a = 1#1 ∧ b = 1#1 := by
  revert a b; decide

/-- An and over a set of bits that comes out one has ones alone. -/
theorem fold_andi {ι : Type} (s : Finset ι) (x : ι → BitVec 1) (h : s.fold IntOp.andi 1#1 x = 1#1) : ∀ i ∈ s, x i = 1#1 := by
  induction s using Finset.cons_induction with
  | empty => simp
  | cons a s ha ih =>
    rw [Finset.fold_cons] at h
    obtain ⟨h1, h2⟩ := and_one h
    intro i hi
    rcases Finset.mem_cons.mp hi with rfl | hi
    · exact h1
    · exact ih h2 i hi

/-- An and over a whole array that comes out one has ones alone. -/
theorem all_one {s : Shape} {axes : List (Fin s.rank)} (x : IVec s 1) (h : s.ReducesTo axes S_) (hu : 0 < S_.numel) (j : S_.Idx)
    (e : Host.reduce IntOp.andi x (constantI S_ 1 1#1) h hu j = 1#1) (i : s.Idx) : x i = 1#1 := by
  rw [Host.reduce_eq_fold] at e
  refine fold_andi _ _ e i (Finset.mem_filter.mpr ⟨Finset.mem_univ _, ?_⟩)
  funext a; exact a.elim0

/-- What a comparison that comes out one says. -/
theorem cmp_oge {x y : EReal} (h : Ideal.cmp .oge x y = 1#1) : y ≤ x := by
  by_contra hn
  have : Ideal.cmp .oge x y = 0#1 := by simp [Ideal.cmp, hn]
  rw [this] at h; exact absurd h (by decide)
theorem cmp_ole {x y : EReal} (h : Ideal.cmp .ole x y = 1#1) : x ≤ y := by
  by_contra hn
  have : Ideal.cmp .ole x y = 0#1 := by simp [Ideal.cmp, hn]
  rw [this] at h; exact absurd h (by decide)

variable {x : Vec Ideal S32x3x512x512 .f32} {r₁ r₂ r₃ : Vec Ideal S1 .f32}
  (h : Cert.Pre_in_range.fn (F := Ideal) x r₁ r₂ r₃ = fun _ => 1#1)

include h

/-- The precondition's two bits, each a bound from below and one from above, are one at every pixel. -/
theorem parts : (∀ i, andi (cmpf .oge (shapeCast S32x512x512 (extractStridedSlice S32x1x512x512 ![0, 0, 0, 0] x Facts.slices_S32x3x512x512_S32x1x512x512_0_0_0_0) Facts.shapeCasts_S32x1x512x512_S32x512x512 : FVec Ideal S32x512x512 .f32)
        (broadcastInDim S32x512x512 ![] Facts.bcast_S_S32x512x512 (constant S_ .f32 0x00000000#32)))
      (cmpf .ole (shapeCast S32x512x512 (extractStridedSlice S32x1x512x512 ![0, 0, 0, 0] x Facts.slices_S32x3x512x512_S32x1x512x512_0_0_0_0) Facts.shapeCasts_S32x1x512x512_S32x512x512 : FVec Ideal S32x512x512 .f32)
        (broadcastInDim S32x512x512 ![] Facts.bcast_S_S32x512x512 (constant S_ .f32 0x42C80000#32))) i = 1#1)
    ∧ ∀ i, andi (cmpf .oge (extractStridedSlice S32x2x512x512 ![0, 1, 0, 0] x Facts.slices_S32x3x512x512_S32x2x512x512_0_1_0_0 : FVec Ideal S32x2x512x512 .f32)
        (broadcastInDim S32x2x512x512 ![] Facts.bcast_S_S32x2x512x512 (constant S_ .f32 0xC3000000#32)))
      (cmpf .ole (extractStridedSlice S32x2x512x512 ![0, 1, 0, 0] x Facts.slices_S32x3x512x512_S32x2x512x512_0_1_0_0 : FVec Ideal S32x2x512x512 .f32)
        (broadcastInDim S32x2x512x512 ![] Facts.bcast_S_S32x2x512x512 (constant S_ .f32 0x42FE0000#32))) i = 1#1 := by
  have e := congrFun h (fun a => a.elim0)
  unfold Cert.Pre_in_range.fn at e
  obtain ⟨e1, e2⟩ := and_one e
  exact ⟨all_one _ _ _ _ e1, all_one _ _ _ _ e2⟩

/-- The lightness is between 0 and 100. -/
theorem light (w : Fin 32) (a b : Fin 512) : ((0 : ℝ) : EReal) ≤ x (ix4 w 0 a b) ∧ x (ix4 w 0 a b) ≤ ((100 : ℝ) : EReal) := by
  have hs : shapeCast S32x512x512 (extractStridedSlice S32x1x512x512 ![0, 0, 0, 0] x Facts.slices_S32x3x512x512_S32x1x512x512_0_0_0_0) Facts.shapeCasts_S32x1x512x512_S32x512x512 (ix3 w a b)
      = x (ix4 w 0 a b) := Ref.chan_apply 0 (by norm_num) _ x w a b
  obtain ⟨e1, e2⟩ := and_one ((parts h).1 (ix3 w a b))
  have f1 := cmp_oge (y := Ideal.ofBits .f32 0x00000000#32) e1
  have f2 := cmp_ole (y := Ideal.ofBits .f32 0x42C80000#32) e2
  rw [hs, Ref.lit_0] at f1
  rw [hs, Ref.lit_100] at f2
  exact ⟨f1, f2⟩

/-- The two colour channels are between −128 and 127. -/
theorem colour (w : Fin 32) (k : Fin 3) (hk : k ≠ 0) (a b : Fin 512) :
    ((-128 : ℝ) : EReal) ≤ x (ix4 w k a b) ∧ x (ix4 w k a b) ≤ ((127 : ℝ) : EReal) := by
  have hk1 : 1 ≤ k.val := Nat.one_le_iff_ne_zero.mpr fun e => hk (Fin.ext e)
  have hs : extractStridedSlice S32x2x512x512 ![0, 1, 0, 0] x Facts.slices_S32x3x512x512_S32x2x512x512_0_1_0_0 (ix4 w ⟨k.val - 1, by have := k.isLt; omega⟩ a b)
      = x (ix4 w k a b) := by
    refine congrArg x ?_
    funext c
    fin_cases c
    · exact Fin.ext (Nat.zero_add _)
    · exact Fin.ext (show 1 + (k.val - 1) = k.val by omega)
    · exact Fin.ext (Nat.zero_add _)
    · exact Fin.ext (Nat.zero_add _)
  obtain ⟨e1, e2⟩ := and_one ((parts h).2 (ix4 w ⟨k.val - 1, by have := k.isLt; omega⟩ a b))
  have f1 := cmp_oge (y := Ideal.ofBits .f32 0xC3000000#32) e1
  have f2 := cmp_ole (y := Ideal.ofBits .f32 0x42FE0000#32) e2
  rw [hs, Ref.lit_m128] at f1
  rw [hs, Ref.lit_127] at f2
  exact ⟨f1, f2⟩

end Range

end Cert.Proof

end
-- ==== Proof.Count.lean ====
/-
  The kernel's sixteen partial counts of a bin, added, are the number of the image's pixels in that bin (`binc_L`, `binc_A`,
  `binc_B`): a lane only ever names its own words, and the lanes of all trips over all blocks read every pixel once.
-/
module

public import proofs.«01_k».proof.Proof.IdealVals
public import Mathlib.Algebra.BigOperators.Intervals

@[expose] public section

noncomputable section

namespace Cert.Proof.KI

open Cert.KernelIdeal Cert.KernelIdeal.Gen Cert.Proof.Hist
open Idealize.ShloMosaic Idealize.ShloMosaic.ValueIdx

/-- A sum over `a` groups of `b` is the sum over all `a * b`. -/
theorem sum_groups (f : ℕ → ℕ) (b : ℕ) : ∀ a : ℕ,
    ∑ i ∈ Finset.range a, ∑ j ∈ Finset.range b, f (b * i + j) = ∑ p ∈ Finset.range (a * b), f p
  | 0 => by simp
  | a + 1 => by
    rw [Finset.sum_range_succ, sum_groups f b a, Nat.add_mul, Nat.one_mul, Finset.sum_range_add]
    simp only [Nat.mul_comm b a]

/-- Sixteen lanes, lane `x` naming word `x` of its bin's sixteen: one names word `x` of bin `k` just when lane `x` is in it. -/
theorem hits_own (ix : IVec L16 32) (b : ℕ) (bin : Fin 16 → ℕ) (h : ∀ x, (ix (ix1 x)).toNat = b + 16 * bin x + x.val)
    (k : ℕ) (x : Fin 16) : hits ix (b + 16 * k + x.val) = if bin x = k then 1 else 0 := by
  unfold hits
  rw [Finset.sum_eq_single x]
  · rw [h]; exact if_congr (by omega) rfl rfl
  · intro y _ hy
    rw [h, if_neg]
    intro e
    exact hy (Fin.ext (by have := x.isLt; have := y.isLt; omega))
  · intro hx; exact absurd (Finset.mem_univ x) hx

/-- No lane names a word that is none of the lanes'. -/
theorem hits_none (ix : IVec L16 32) (j : ℕ) (h : ∀ x, (ix (ix1 x)).toNat ≠ j) : hits ix j = 0 :=
  Finset.sum_eq_zero fun x _ => if_neg (h x)

variable {F : FTy → Type} [FloatOps F]

/-- The bin of pixel `p`, in row-major order, of image `w`'s channel `ch`. -/
def binAt (lo bs : BitVec 32) (lab : Vec F S32x3x512x512 .f32) (w : Fin 32) (ch : Fin 3) (p : ℕ) : ℕ :=
  (bw lo bs (lab (ix4 w ch ⟨p / 512 % 512, Nat.mod_lt _ (by decide)⟩ ⟨p % 512, Nat.mod_lt _ (by decide)⟩))).toNat

/-- The value lane `x` reads at trip `t` of block `c` is that of pixel `16 * (2048 * c + t) + x`. -/
theorem pixel_eq (lab : Vec F S32x3x512x512 .f32) (w : Fin 32) (ch : Fin 3) {c t : ℕ} (hc : c < 8) (ht : t < 2048) (x : Fin 16) :
    rowOf (blockOf lab w ch c) t (ix2 0 x)
      = lab (ix4 w ch ⟨(16 * (2048 * c + t) + x.val) / 512 % 512, Nat.mod_lt _ (by decide)⟩
          ⟨(16 * (2048 * c + t) + x.val) % 512, Nat.mod_lt _ (by decide)⟩) := by
  have hx := x.isLt
  have e1 : (64 * c + t / 32 % 64) % 512 = (16 * (2048 * c + t) + x.val) / 512 % 512 := by omega
  have e2 : (16 * (t % 32) + x.val) % 512 = (16 * (2048 * c + t) + x.val) % 512 := by omega
  show lab (ix4 w ch ⟨(64 * c + t / 32 % 64) % 512, _⟩ ⟨(16 * (t % 32) + x.val) % 512, _⟩) = _
  simp only [e1, e2]

/-- The adds at bin `k`'s sixteen words by the lanes of one channel are the pixels of that channel in bin `k`. -/
theorem sum_cntC (pay : Vec F S1x16 .f32 → IVec S16 32) (lo bs : BitVec 32) (b : ℕ)
    (h : ∀ v x, (pay v (ix1 x)).toNat = b + 16 * (bw lo bs (v (ix2 0 x))).toNat + x.val)
    (lab : Vec F S32x3x512x512 .f32) (w : Fin 32) (ch : Fin 3) (k : ℕ) :
    ∑ x : Fin 16, cntC pay lab w ch 8 (b + 16 * k + x.val)
      = ∑ p ∈ Finset.range 262144, if binAt lo bs lab w ch p = k then 1 else 0 := by
  have h1 : ∀ x : Fin 16, cntC pay lab w ch 8 (b + 16 * k + x.val)
      = ∑ c ∈ Finset.range 8, ∑ t ∈ Finset.range 2048, if binAt lo bs lab w ch (16 * (2048 * c + t) + x.val) = k then 1 else 0 := by
    intro x
    refine Finset.sum_congr rfl fun c hc => Finset.sum_congr rfl fun t ht => ?_
    rw [hits_own (pay (rowOf (blockOf lab w ch c) t)) b _ (h _) k x, pixel_eq lab w ch (Finset.mem_range.mp hc) (Finset.mem_range.mp ht) x]
    rfl
  have h2 : ∀ q : ℕ, (∑ x : Fin 16, if binAt lo bs lab w ch (16 * q + x.val) = k then 1 else 0)
      = ∑ x ∈ Finset.range 16, if binAt lo bs lab w ch (16 * q + x) = k then 1 else 0 := fun q =>
    (Finset.sum_range (fun x => if binAt lo bs lab w ch (16 * q + x) = k then 1 else 0)).symm
  calc ∑ x : Fin 16, cntC pay lab w ch 8 (b + 16 * k + x.val)
      = ∑ c ∈ Finset.range 8, ∑ t ∈ Finset.range 2048, ∑ x ∈ Finset.range 16,
          if binAt lo bs lab w ch (16 * (2048 * c + t) + x) = k then 1 else 0 := by
        rw [Finset.sum_congr rfl (fun x _ => h1 x), Finset.sum_comm]
        refine Finset.sum_congr rfl fun c _ => ?_
        rw [Finset.sum_comm]
        exact Finset.sum_congr rfl fun t _ => h2 _
    _ = ∑ q ∈ Finset.range (8 * 2048), ∑ x ∈ Finset.range 16, if binAt lo bs lab w ch (16 * q + x) = k then 1 else 0 :=
        sum_groups (fun q => ∑ x ∈ Finset.range 16, if binAt lo bs lab w ch (16 * q + x) = k then 1 else 0) 2048 8
    _ = ∑ p ∈ Finset.range (8 * 2048 * 16), if binAt lo bs lab w ch p = k then 1 else 0 :=
        sum_groups (fun p => if binAt lo bs lab w ch p = k then 1 else 0) 16 (8 * 2048)
    _ = _ := by rw [show 8 * 2048 * 16 = 262144 from by norm_num]

/-- Adds at words no lane of a channel names: none. -/
theorem cntC_none (pay : Vec F S1x16 .f32 → IVec S16 32) (lab : Vec F S32x3x512x512 .f32) (w : Fin 32) (ch : Fin 3) (n j : ℕ)
    (h : ∀ v x, (pay v (ix1 x)).toNat ≠ j) : cntC pay lab w ch n j = 0 :=
  Finset.sum_eq_zero fun _ _ => Finset.sum_eq_zero fun _ _ => hits_none _ _ (h _)

theorem off4 (v : Vec F S1x16 .f32) (x : Fin 16) : (k0_pay4 v (ix1 x)).toNat < 1600 := by
  rw [pay4_toNat]
  have h : (bw 0x00000000#32 0x3F800000#32 (v (ix2 0 x))).toNat ≤ 99 := clamp_le _
  have := x.isLt; omega
theorem off5 (v : Vec F S1x16 .f32) (x : Fin 16) : 2048 ≤ (k0_pay5 v (ix1 x)).toNat ∧ (k0_pay5 v (ix1 x)).toNat < 3648 := by
  rw [pay5_toNat]
  have h : (bw 0xC3000000#32 0x40233333#32 (v (ix2 0 x))).toNat ≤ 99 := clamp_le _
  have := x.isLt; omega
theorem off6 (v : Vec F S1x16 .f32) (x : Fin 16) : 4096 ≤ (k0_pay6 v (ix1 x)).toNat := by
  rw [pay6_toNat]; omega

variable (lab : Vec F S32x3x512x512 .f32) (w : Fin 32)

/-- The histogram's words below channel A's are channel L's alone. -/
theorem hist_L {j : ℕ} (hj : j < 2048) : hist lab w j = cntC k0_pay4 lab w 0 8 j := by
  have h5 : cntC k0_pay5 lab w 1 8 j = 0 := cntC_none _ _ _ _ _ _ fun v y e => by have := off5 v y; omega
  have h6 : cntC k0_pay6 lab w 2 8 j = 0 := cntC_none _ _ _ _ _ _ fun v y e => by have := off6 v y; omega
  unfold hist
  omega
theorem hist_A {j : ℕ} (hj : 2048 ≤ j) (hj' : j < 4096) : hist lab w j = cntC k0_pay5 lab w 1 8 j := by
  have h4 : cntC k0_pay4 lab w 0 8 j = 0 := cntC_none _ _ _ _ _ _ fun v y e => by have := off4 v y; omega
  have h6 : cntC k0_pay6 lab w 2 8 j = 0 := cntC_none _ _ _ _ _ _ fun v y e => by have := off6 v y; omega
  unfold hist
  omega
theorem hist_B {j : ℕ} (hj : 4096 ≤ j) : hist lab w j = cntC k0_pay6 lab w 2 8 j := by
  have h4 : cntC k0_pay4 lab w 0 8 j = 0 := cntC_none _ _ _ _ _ _ fun v y e => by have := off4 v y; omega
  have h5 : cntC k0_pay5 lab w 1 8 j = 0 := cntC_none _ _ _ _ _ _ fun v y e => by have := off5 v y; omega
  unfold hist
  omega

/-- A channel's count of bin `k`, given whose its words are. -/
theorem binc_of (pay : Vec F S1x16 .f32 → IVec S16 32) (lo bs : BitVec 32) (b n : ℕ) (ch : Fin 3)
    (h : ∀ v x, (pay v (ix1 x)).toNat = b + 16 * (bw lo bs (v (ix2 0 x))).toNat + x.val) (hb : 2048 * n = b) (k : ℕ)
    (hh : ∀ x : Fin 16, hist lab w (b + 16 * k + x.val) = cntC pay lab w ch 8 (b + 16 * k + x.val)) :
    binc lab w n k = ∑ p ∈ Finset.range 262144, if binAt lo bs lab w ch p = k then 1 else 0 := by
  subst hb
  rw [← sum_cntC pay lo bs (2048 * n) h lab w ch k]
  exact Finset.sum_congr rfl fun x _ => hh x

/-- Channel L's count of bin `k` is the number of its pixels in bin `k`. -/
theorem binc_L {k : ℕ} (hk : k < 100) : binc lab w 0 k
    = ∑ p ∈ Finset.range 262144, if binAt 0x00000000#32 0x3F800000#32 lab w 0 p = k then 1 else 0 :=
  binc_of lab w k0_pay4 _ _ 0 0 0 (fun v x => by rw [pay4_toNat]; omega) (by norm_num) k
    fun x => hist_L lab w (by have := x.isLt; omega)

/-- Channel A's count of bin `k` is the number of its pixels in bin `k`. -/
theorem binc_A {k : ℕ} (hk : k < 100) : binc lab w 1 k
    = ∑ p ∈ Finset.range 262144, if binAt 0xC3000000#32 0x40233333#32 lab w 1 p = k then 1 else 0 :=
  binc_of lab w k0_pay5 _ _ 2048 1 1 pay5_toNat (by norm_num) k
    fun x => hist_A lab w (by omega) (by have := x.isLt; omega)

/-- Channel B's count of bin `k` is the number of its pixels in bin `k`. -/
theorem binc_B (k : ℕ) : binc lab w 2 k
    = ∑ p ∈ Finset.range 262144, if binAt 0xC3000000#32 0x40233333#32 lab w 2 p = k then 1 else 0 :=
  binc_of lab w k0_pay6 _ _ 4096 2 2 pay6_toNat (by norm_num) k
    fun x => hist_B lab w (by omega)

end Cert.Proof.KI

end
-- ==== Proof.Pick.lean ====
/-
  The reference's two choices of a bin at the extended reals: its arg-max over a row of counts is the first place of the
  largest (`firstBin_spec`), the second index of its top two the first place of the largest other (`secondBin_spec`).
-/
module

public import proofs.«01_k».proof.Proof.RefMain
public import proofs.«01_k».proof.Proof.Scan
public import Idealize.ShloMosaic.Lib.ValueIdxCoords
public import Idealize.ShloMosaic.Lib.PlanTiles.StableSort
public import Idealize.ShloMosaic.PureOps.Ideal.Laws

@[expose] public section

noncomputable section

namespace Cert.Proof.Ref

open Cert.ReferenceIdeal Cert.ReferenceIdeal.Gen Cert.Proof.Scan
open Idealize.ShloMosaic Idealize.ShloMosaic.ValueIdx

/-! ## The arg-max -/

/-- One step of the arg-max: the pair held stays where its value is the larger, or the same at a smaller index. -/
theorem reducer_eq (a b : Ideal .f32 × BitVec 32) : reducer_argmax_f32_i32 (F := Ideal) a b
    = if (b.1 : EReal) < a.1 ∨ ((a.1 : EReal) = b.1 ∧ a.2.toInt < b.2.toInt) then a else b := by
  have e : reducer_argmax_f32_i32 (F := Ideal) a b
      = (Scalar.select (IntOp.ori (BitVec.ofBool (decide ((b.1 : EReal) < a.1))) (BitVec.ofBool (decide ((a.1 : EReal) ≠ a.1)))) a.1 b.1,
        Scalar.select (IntOp.ori (IntOp.ori (BitVec.ofBool (decide ((b.1 : EReal) < a.1))) (BitVec.ofBool (decide ((a.1 : EReal) ≠ a.1))))
          (IntOp.andi (BitVec.ofBool (decide ((a.1 : EReal) = b.1))) (BitVec.ofBool (a.2.slt b.2)))) a.2 b.2) := rfl
  obtain ⟨a1, a2⟩ := a
  obtain ⟨b1, b2⟩ := b
  rw [e]
  simp only [BitVec.slt]
  by_cases h1 : (b1 : EReal) < a1
  · have h2 : ¬ (a1 : EReal) = b1 := ne_of_gt h1
    simp [h1, h2, IntOp.ori, IntOp.andi, Scalar.select]
  · by_cases h2 : (a1 : EReal) = b1
    · by_cases h3 : a2.toInt < b2.toInt
      · subst h2; simp [h3, IntOp.ori, IntOp.andi, Scalar.select]
      · subst h2; simp [h3, IntOp.ori, IntOp.andi, Scalar.select]
    · simp [h1, h2, IntOp.ori, IntOp.andi, Scalar.select]

/-- The arg-max over a list of counts with their places, from the least value: a place of the list whose count no other of
    the list passes, the first of the equals. -/
theorem fold_argmax {ι : Type} (c k : ι → ℕ) (hk : ∀ i, k i < 2 ^ 31) (l : List ι) :
    (l = [] ∧ l.foldl (fun r i => reducer_argmax_f32_i32 (F := Ideal) r ((((c i : ℝ) : EReal) : Ideal .f32), BitVec.ofNat 32 (k i)))
        ((⊥ : EReal), 0#32) = ((⊥ : EReal), 0#32))
    ∨ ∃ i ∈ l, l.foldl (fun r i => reducer_argmax_f32_i32 (F := Ideal) r ((((c i : ℝ) : EReal) : Ideal .f32), BitVec.ofNat 32 (k i)))
        ((⊥ : EReal), 0#32) = ((((c i : ℝ) : EReal) : Ideal .f32), BitVec.ofNat 32 (k i))
      ∧ ∀ j ∈ l, c j < c i ∨ (c j = c i ∧ k i ≤ k j) := by
  induction l using List.reverseRecOn with
  | nil => exact Or.inl ⟨rfl, rfl⟩
  | append_singleton l a ih =>
    refine Or.inr ?_
    rw [List.foldl_append, List.foldl_cons, List.foldl_nil]
    rcases ih with ⟨rfl, h⟩ | ⟨i, hi, h, hj⟩
    · refine ⟨a, by simp, ?_, fun j hj => ?_⟩
      · rw [h, reducer_eq, if_neg]
        rintro (h1 | ⟨h1, -⟩)
        · exact absurd h1 not_lt_bot
        · exact absurd h1.symm (EReal.coe_ne_bot _)
      · obtain rfl : j = a := by simpa using hj
        exact Or.inr ⟨rfl, le_rfl⟩
    · rw [h, reducer_eq]
      have hc : ∀ x y : ℕ, (((x : ℝ) : EReal) < ((y : ℝ) : EReal)) ↔ x < y := fun x y => by norm_cast
      have he : ∀ x y : ℕ, (((x : ℝ) : EReal) = ((y : ℝ) : EReal)) ↔ x = y := fun x y => by norm_cast
      simp only [hc, he, toInt_small (hk _)]
      by_cases hh : c a < c i ∨ (c i = c a ∧ ((k i : ℕ) : ℤ) < k a)
      · rw [if_pos hh]
        refine ⟨i, List.mem_append_left _ hi, rfl, fun j hj' => ?_⟩
        rcases List.mem_append.mp hj' with hj' | hj'
        · exact hj j hj'
        · obtain rfl : j = a := by simpa using hj'
          omega
      · rw [if_neg hh]
        refine ⟨a, by simp, rfl, fun j hj' => ?_⟩
        rcases List.mem_append.mp hj' with hj' | hj'
        · have := hj j hj'; omega
        · obtain rfl : j = a := by simpa using hj'
          exact Or.inr ⟨rfl, le_rfl⟩

/-- A count's place without its bin is its image. -/
theorem drop_row (i : S32x100.Idx) : reducesTo_S32x100_S32_d1.drop i = ix1 (i 0) := by
  funext b
  obtain rfl : b = 0 := Subsingleton.elim _ _
  exact Fin.ext (reducesTo_S32x100_S32_d1.drop_apply_val_of_eq i 0 0)

/-- The largest's starting word is minus infinity. -/
theorem lit_bot : Ideal.ofBits .f32 0xFF800000#32 = (⊥ : EReal) := by
  simp [Ideal.ofBits, Ideal.ieee]

/-- The bin of the highest count is the first place of the largest. -/
theorem firstBin_spec (h : (⟨S32x100, .f32⟩ : BufTy).Contents (Elt Ideal)) (n : Fin 32 → ℕ → ℕ)
    (hn : ∀ w (k : Fin 100), h (ix2 w k) = (((n w k.val : ℕ) : ℝ) : EReal)) (w : Fin 32) :
    ∃ a, First (n w) 100 a ∧ firstBin (F := Ideal) h (ix1 w) = BitVec.ofNat 32 a := by
  have hx : ∀ i : S32x100.Idx, h i = (((n (i 0) (i 1).val : ℕ) : ℝ) : EReal) := fun i => by
    have e := hn (i 0) (i 1)
    exact (congrArg h (eq_ix2 i)).trans e
  set l : List (Fin S32x100.numel) := (List.finRange S32x100.numel).filter fun m =>
    reducesTo_S32x100_S32_d1.drop (S32x100.rowMajor.symm m) = ix1 w with hl
  have hml : ∀ m, m ∈ l ↔ (S32x100.rowMajor.symm m) 0 = w := fun m => by
    rw [hl, List.mem_filter, decide_eq_true_eq, drop_row]
    refine ⟨fun hh => ?_, fun hh => ⟨List.mem_finRange m, by rw [hh]; rfl⟩⟩
    have := congrFun hh.2 0
    exact this
  have e : firstBin (F := Ideal) h (ix1 w)
      = (l.foldl (fun r m => reducer_argmax_f32_i32 (F := Ideal) r
          ((((n ((S32x100.rowMajor.symm m) 0) ((S32x100.rowMajor.symm m) 1).val : ℝ) : EReal) : Ideal .f32),
            BitVec.ofNat 32 ((S32x100.rowMajor.symm m) 1).val)) ((⊥ : EReal), 0#32)).2 := by
    unfold firstBin
    rw [Ideal.argReduce_eq_reduce2]
    show (l.foldl (fun r m => reducer_argmax_f32_i32 (F := Ideal) r (h (S32x100.rowMajor.symm m), BitVec.ofNat 32 ((S32x100.rowMajor.symm m) 1).val))
      (Ideal.ofBits .f32 0xFF800000#32, 0#32)).2 = _
    simp only [hx, lit_bot]
  rcases fold_argmax (fun m => n ((S32x100.rowMajor.symm m) 0) ((S32x100.rowMajor.symm m) 1).val)
    (fun m => ((S32x100.rowMajor.symm m) 1).val) (fun m => lt_trans ((S32x100.rowMajor.symm m) 1).isLt (by norm_num [Shape.size])) l
    with ⟨h0, -⟩ | ⟨i, hi, hf, hj⟩
  · have : S32x100.rowMajor (ix2 w 0) ∈ l := (hml _).mpr (by rw [Equiv.symm_apply_apply])
    rw [h0] at this
    exact absurd this List.not_mem_nil
  · refine ⟨((S32x100.rowMajor.symm i) 1).val, ?_, by rw [e, hf]⟩
    have hw := (hml i).mp hi
    have key : ∀ k : Fin 100, n w k.val < n w ((S32x100.rowMajor.symm i) 1).val
        ∨ (n w k.val = n w ((S32x100.rowMajor.symm i) 1).val ∧ ((S32x100.rowMajor.symm i) 1).val ≤ k.val) := fun k => by
      have hm : S32x100.rowMajor (ix2 w k) ∈ l := (hml _).mpr (by rw [Equiv.symm_apply_apply])
      have := hj _ hm
      simp only [Equiv.symm_apply_apply, hw] at this
      exact this
    refine ⟨((S32x100.rowMajor.symm i) 1).isLt, fun k hk => ?_, fun k hk => ?_⟩
    · have := key ⟨k, hk⟩
      simp only at this; omega
    · have := key ⟨k, lt_trans hk ((S32x100.rowMajor.symm i) 1).isLt⟩
      simp only at this; omega

/-! ## The second of the top two -/

/-- A stable sort by descending count puts the first place of the largest first, and the first place of the largest other
    second. -/
theorem sorted_spec (c : ℕ → ℕ) (B : Fin 100 → Fin 100 → Bool) (hB : B = fun a b => decide (c b.val < c a.val)) :
    First c 100 (sortedFrom B 0).val ∧ Second c 100 (sortedFrom B 0).val (sortedFrom B 1).val := by
  have hp : (sortPositions 100 B).Pairwise (PlanTiles.Lex (fun a : Fin 100 => c a.val) (· < ·)) := by
    subst hB
    exact PlanTiles.pairwise_stableSort_lex (fun a : Fin 100 => c a.val) (· < ·) (List.finRange 100) (List.pairwise_lt_finRange 100)
  have hm : ∀ k : Fin 100, k ∈ sortPositions 100 B := fun k =>
    (perm_sortPositions 100 B).mem_iff.mpr (List.mem_finRange k)
  have hlen := length_sortPositions 100 B
  have g0 : sortedFrom B 0 = (sortPositions 100 B)[0]'(by rw [hlen]; norm_num) := rfl
  have g1 : sortedFrom B 1 = (sortPositions 100 B)[1]'(by rw [hlen]; norm_num) := rfl
  rw [g0, g1]
  generalize sortPositions 100 B = L at hp hm hlen
  match L, hlen with
  | p :: q :: r, _ =>
    obtain ⟨hp1, hp2⟩ := List.pairwise_cons.mp hp
    obtain ⟨hq1, -⟩ := List.pairwise_cons.mp hp2
    have hpq := hp1 q (by simp)
    show First c 100 p.val ∧ Second c 100 p.val q.val
    have k1 : ∀ k : Fin 100, k ≠ p → c k.val < c p.val ∨ (c p.val = c k.val ∧ p.val < k.val) := fun k hk =>
      hp1 k ((List.mem_cons.mp (hm k)).resolve_left hk)
    have k2 : ∀ k : Fin 100, k ≠ p → k ≠ q → c k.val < c q.val ∨ (c q.val = c k.val ∧ q.val < k.val) := fun k hk hk' =>
      hq1 k ((List.mem_cons.mp ((List.mem_cons.mp (hm k)).resolve_left hk)).resolve_left hk')
    have hne : q.val ≠ p.val := by
      rcases hpq with h | ⟨-, h⟩
      · intro e; simp only [e] at h; omega
      · have : p.val < q.val := h
        omega
    refine ⟨⟨p.isLt, fun k hk => ?_, fun k hk => ?_⟩, ⟨q.isLt, hne, fun k hk hkp => ?_, fun k hk hkp => ?_⟩⟩
    · by_cases e : (⟨k, hk⟩ : Fin 100) = p
      · rw [← e]
      · have := k1 ⟨k, hk⟩ e; simp only at this; omega
    · have hk' : k < 100 := by omega
      have := k1 ⟨k, hk'⟩ (fun e => by rw [← e] at hk; simp at hk)
      simp only at this; omega
    · by_cases e : (⟨k, hk⟩ : Fin 100) = q
      · rw [← e]
      · have := k2 ⟨k, hk⟩ (fun e' => hkp (by rw [← e'])) e; simp only at this; omega
    · have hk' : k < 100 := by omega
      have := k2 ⟨k, hk'⟩ (fun e' => hkp (by rw [← e'])) (fun e => by rw [← e] at hk; simp at hk)
      simp only at this; omega

/-- The bin of the second highest count is the first place of the largest other than that at the first place of the
    largest. -/
theorem secondBin_spec (h : (⟨S32x100, .f32⟩ : BufTy).Contents (Elt Ideal)) (n : Fin 32 → ℕ → ℕ)
    (hn : ∀ w (k : Fin 100), h (ix2 w k) = (((n w k.val : ℕ) : ℝ) : EReal)) (w : Fin 32) :
    ∃ a b, First (n w) 100 a ∧ Second (n w) 100 a b ∧ secondBin (F := Ideal) h (ix1 w) = BitVec.ofNat 32 b := by
  obtain ⟨h1, h2⟩ := sorted_spec (n w) (fun a b => decide (n w b.val < n w a.val)) rfl
  refine ⟨_, _, h1, h2, ?_⟩
  have hB : (fun k k' : Fin 100 => (Ideal.cmp .ogt (h (ix2 w k)) (h (ix2 w k')) == 1#1)) = fun a b => decide (n w b.val < n w a.val) := by
    funext k k'
    rw [hn, hn]
    have hc : (((n w k'.val : ℝ) : EReal) < ((n w k.val : ℝ) : EReal)) ↔ n w k'.val < n w k.val := by norm_cast
    by_cases e : n w k'.val < n w k.val <;> simp [Ideal.cmp, hc, e]
  rw [← hB]
  have hj : ∀ x : Vec Ideal S32x1 .i32, shapeCast S32 x shapeCasts_S32x1_S32 (ix1 w) = x (ix2 w 0) := fun x => by
    refine congrArg x (Shape.reshapeEquiv_eq_of_rowMajor _ ?_)
    rw [Shape.rowMajor_val_two, Shape.rowMajor_val_one]
    show w.val * 1 + 0 = w.val
    omega
  have ha : ∀ k : Fin 100, (ix2 w (1 : Fin 100) : S32x100.Idx).along 1 k = ix2 w k := fun k => by
    funext a; fin_cases a <;> rfl
  unfold secondBin
  rw [hj]
  have hs : ∀ x : Vec Ideal S32x2 .i32, extractStridedSlice S32x1 ![0, 1] x slices_S32x2_S32x1_0_1 (ix2 w 0) = x (ix2 w 1) := fun x =>
    congrArg x (by funext a; fin_cases a <;> exact Fin.ext (by simp [ix2]))
  rw [hs]
  have ht : (Host.topK S32x2 1 (FloatOps.cmpfTotal (F := Ideal) (φ := .f32) .gt) h sliceFits_S32x100_S32x2).2 (ix2 w 1)
      = BitVec.ofNat 32 (sortedFrom (fun k k' => Ideal.cmp .ogt (h ((ix2 w (1 : Fin 100) : S32x100.Idx).along 1 k)) (h ((ix2 w (1 : Fin 100) : S32x100.Idx).along 1 k')) == 1#1) (1 : Fin 100)).val := by
    have hx : ∀ x : IVec S32x100 32, extractStridedSlice S32x2 (fun _ => 0) x sliceFits_S32x100_S32x2 (ix2 w 1) = x (ix2 w 1) := fun x =>
      congrArg x (by funext a; fin_cases a <;> exact Fin.ext (Nat.zero_add _))
    have e : (Host.topK S32x2 1 (FloatOps.cmpfTotal (F := Ideal) (φ := .f32) .gt) h sliceFits_S32x100_S32x2).2
        = extractStridedSlice S32x2 (fun _ => 0) (Host.sort2 S32x100 1 (fun l r : Ideal .f32 × BitVec 32 => FloatOps.cmpfTotal (F := Ideal) (φ := .f32) .gt l.1 r.1) h
            (iotaInDim S32x100 32 1)).2 sliceFits_S32x100_S32x2 := rfl
    have hi : ∀ k : Fin 100, iotaInDim S32x100 32 1 ((ix2 w (1 : Fin 100) : S32x100.Idx).along 1 k) = BitVec.ofNat 32 k.val := fun k => by
      rw [ha]; rfl
    rw [e, hx, Host.sort2, dif_pos (by decide : 1 < S32x100.rank)]
    exact hi _
  rw [ht]
  exact congrArg (fun g : Fin 100 → S32x100.Idx =>
    BitVec.ofNat 32 (sortedFrom (fun k k' => Ideal.cmp .ogt (h (g k)) (h (g k')) == 1#1) (1 : Fin 100)).val) (funext ha)

end Cert.Proof.Ref

end
-- ==== Proof.Peaks.lean ====
/-
  The peaks of the two programs are the same: under the precondition both count the same pixels per bin (`counts_pix`,
  `scan_pix`), both name the same bin (`scan_second`, `scan_first`), and both take that bin's middle (`peak_L`, `peak_C`),
  which is a real number other than zero (`mid_L`, `mid_C`).
-/
module

public import proofs.«01_k».proof.Proof.Count
public import proofs.«01_k».proof.Proof.Pick
public import proofs.«01_k».proof.Proof.Bins

@[expose] public section

noncomputable section

namespace Cert.Proof.Peaks

open Cert.ReferenceIdeal Cert.ReferenceIdeal.Gen
open Cert.Proof.Hist Cert.Proof.Scan Cert.Proof.Ref
open Idealize.ShloMosaic Idealize.ShloMosaic.ValueIdx

/-! ## The counts -/

/-- How many pixels of channel `ch` of image `w` are in bin `k`. -/
def pix (lo bs : BitVec 32) (lab : Vec Ideal S32x3x512x512 .f32) (w : Fin 32) (ch : Fin 3) (k : ℕ) : ℕ :=
  ∑ p ∈ Finset.range 262144, if KI.binAt (F := Ideal) lo bs lab w ch p = k then 1 else 0

/-- Such a number fits a signed word. -/
theorem pix_lt (lo bs : BitVec 32) (lab : Vec Ideal S32x3x512x512 .f32) (w : Fin 32) (ch : Fin 3) (k : ℕ) :
    pix lo bs lab w ch k < 2 ^ 31 := by
  have h : pix lo bs lab w ch k ≤ (Finset.range 262144).card • 1 := by
    unfold pix
    exact Finset.sum_le_card_nsmul _ _ 1 fun p _ => by split <;> simp
  rw [Finset.card_range, smul_eq_mul] at h
  omega

/-- The reference's count is the number of pixels, where every pixel is in range. -/
theorem counts_pix (lo bs hi : BitVec 32) (l b h : ℝ) (hlo : Ideal.ofBits .f32 lo = (l : EReal)) (hbs : Ideal.ofBits .f32 bs = (b : EReal))
    (hhi : Ideal.ofBits .f32 hi = (h : EReal)) (hb : 0 < b) (lab : Vec Ideal S32x3x512x512 .f32) (ch : Fin 3)
    (c : (⟨S32x512x512, .f32⟩ : BufTy).Contents (Elt Ideal)) (hc : ∀ w p q, c (ix3 w p q) = lab (ix4 w ch p q))
    (hr : ∀ w p q, (l : EReal) ≤ lab (ix4 w ch p q) ∧ lab (ix4 w ch p q) ≤ (h : EReal)) (w : Fin 32) (k : Fin 100) :
    counts (F := Ideal) (bins lo bs hi (flat c)) (ix2 w k) = (((pix lo bs lab w ch k.val : ℕ) : ℝ) : EReal) := by
  rw [counts_apply]
  refine congrArg (fun n : ℕ => ((n : ℝ) : EReal)) ?_
  unfold pix
  rw [Finset.sum_range]
  refine Finset.sum_congr rfl fun p _ => ?_
  have e : flat (F := Ideal) c (ix2 w p)
      = lab (ix4 w ch ⟨p.val / 512 % 512, Nat.mod_lt _ (by decide)⟩ ⟨p.val % 512, Nat.mod_lt _ (by decide)⟩) := by
    rw [flat_apply, hc]
    have : p.val / 512 % 512 = p.val / 512 := Nat.mod_eq_of_lt (by have := p.isLt; omega)
    exact congrArg (fun q => lab (ix4 w ch q _)) (Fin.ext this.symm)
  have hb' : bins (F := Ideal) lo bs hi (flat c) (ix2 w p) = bw (F := Ideal) lo bs (flat (F := Ideal) c (ix2 w p)) :=
    bins_apply lo bs hi l b h hlo hbs hhi hb _ _ (by rw [e]; exact (hr _ _ _).1) (by rw [e]; exact (hr _ _ _).2)
  have hn : KI.binAt (F := Ideal) lo bs lab w ch p.val = (bins (F := Ideal) lo bs hi (flat c) (ix2 w p) : BitVec 32).toNat := by
    rw [hb', e]; rfl
  rw [hn]
  refine if_congr ?_ rfl rfl
  have hk := k.isLt
  constructor
  · intro h; rw [h, BitVec.toNat_ofNat, Nat.mod_eq_of_lt (by omega)]
  · intro h; apply BitVec.eq_of_toNat_eq; rw [h, BitVec.toNat_ofNat, Nat.mod_eq_of_lt (by omega)]

/-- A scan of the first `n` words reads no others. -/
theorem top2_congr {c d : ℕ → BitVec 32} : ∀ {n : ℕ}, (∀ k < n, c k = d k) → top2 c n = top2 d n
  | 0, _ => rfl
  | n + 1, h => by
    rw [top2, top2, top2_congr fun k hk => h k (Nat.lt_succ_of_lt hk), h n (Nat.lt_succ_self n)]

/-- The kernel's scan, over the numbers of pixels. -/
theorem scan_pix (lo bs : BitVec 32) (lab : Vec Ideal S32x3x512x512 .f32) (w : Fin 32) (n : ℕ) (ch : Fin 3)
    (h : ∀ k < 100, KI.binc (F := Ideal) lab w n k = pix lo bs lab w ch k) :
    ∃ a b, First (pix lo bs lab w ch) 100 a ∧ Second (pix lo bs lab w ch) 100 a b
      ∧ (KI.scan2 (F := Ideal) lab w n).2.1 = BitVec.ofNat 32 a ∧ (KI.scan2 (F := Ideal) lab w n).2.2.2 = BitVec.ofNat 32 b := by
  have e : KI.scan2 (F := Ideal) lab w n = top2 (fun k => BitVec.ofNat 32 (pix lo bs lab w ch k)) 100 := by
    unfold KI.scan2
    exact top2_congr fun k hk => by rw [h k hk]
  rw [e]
  exact top2_spec _ (pix_lt lo bs lab w ch) 100 (by norm_num) (by norm_num)

/-! ## The middles -/

/-- The middle of bin `k`: lo + (k + 1/2) bs. -/
def mid (lo bs k : BitVec 32) : Ideal .f32 :=
  FloatOps.addf (FloatOps.ofBits .f32 lo) (FloatOps.mulf (FloatOps.addf (FloatOps.sitofp .f32 k) (FloatOps.ofBits .f32 0x3F000000#32)) (FloatOps.ofBits .f32 bs))

/-- The reference's middle, per image, is that. -/
theorem middle_apply (lo bs : BitVec 32) (k : (⟨S32, .i32⟩ : BufTy).Contents (Elt Ideal)) (w : Fin 32) :
    middle (F := Ideal) lo bs k (ix1 w) = mid lo bs (k (ix1 w)) := rfl

/-- The kernel's lanes 0, 1 and 2. -/
theorem lanes (k0 k1 k2 : BitVec 32) :
    KernelIdeal.Gen.k0_pay1 (KernelIdeal.Gen.k0_pay10 (F := Ideal) k0) (KernelIdeal.Gen.k0_pay11 (iota .scVector KernelIdeal.S16 32 [0] KernelIdeal.Gen.facts.iota_S16_d0_w32_scVector))
        (KernelIdeal.Gen.k0_pay12 (F := Ideal) (iota .scVector KernelIdeal.S16 32 [0] KernelIdeal.Gen.facts.iota_S16_d0_w32_scVector) k1 k2) (ix1 0)
      = mid 0x00000000#32 0x3F800000#32 k0
    ∧ KernelIdeal.Gen.k0_pay1 (KernelIdeal.Gen.k0_pay10 (F := Ideal) k0) (KernelIdeal.Gen.k0_pay11 (iota .scVector KernelIdeal.S16 32 [0] KernelIdeal.Gen.facts.iota_S16_d0_w32_scVector))
        (KernelIdeal.Gen.k0_pay12 (F := Ideal) (iota .scVector KernelIdeal.S16 32 [0] KernelIdeal.Gen.facts.iota_S16_d0_w32_scVector) k1 k2) (ix1 1)
      = mid 0xC3000000#32 0x40233333#32 k1
    ∧ KernelIdeal.Gen.k0_pay1 (KernelIdeal.Gen.k0_pay10 (F := Ideal) k0) (KernelIdeal.Gen.k0_pay11 (iota .scVector KernelIdeal.S16 32 [0] KernelIdeal.Gen.facts.iota_S16_d0_w32_scVector))
        (KernelIdeal.Gen.k0_pay12 (F := Ideal) (iota .scVector KernelIdeal.S16 32 [0] KernelIdeal.Gen.facts.iota_S16_d0_w32_scVector) k1 k2) (ix1 2)
      = mid 0xC3000000#32 0x40233333#32 k2 := ⟨rfl, rfl, rfl⟩

/-- The middle of a lightness bin is a real number above zero. -/
theorem mid_L {k : ℕ} (hk : k < 100) : ∃ p : ℝ, p ≠ 0 ∧ mid 0x00000000#32 0x3F800000#32 (BitVec.ofNat 32 k) = (p : EReal) := by
  refine ⟨0 + ((k : ℝ) + 1 / 2) * 1, by positivity, ?_⟩
  show Ideal.ofBits .f32 0x00000000#32 + (((((BitVec.ofNat 32 k).toInt : ℤ) : ℝ) : EReal) + Ideal.ofBits .f32 0x3F000000#32) * Ideal.ofBits .f32 0x3F800000#32 = _
  rw [lit_0, lit_half, lit_1, toInt_small (by omega), EReal.coe_add, EReal.coe_mul, EReal.coe_add]
  rfl

/-- The middle of a colour bin is a real number other than zero: were it zero, an odd number would be a power of two. -/
theorem mid_C {k : ℕ} (hk : k < 100) : ∃ p : ℝ, p ≠ 0 ∧ mid 0xC3000000#32 0x40233333#32 (BitVec.ofNat 32 k) = (p : EReal) := by
  refine ⟨-128 + ((k : ℝ) + 1 / 2) * (10695475 / 4194304), ?_, ?_⟩
  · intro h
    have h' : (10695475 * (2 * k + 1) : ℝ) = 1073741824 := by linarith
    have h'' : 10695475 * (2 * k + 1) = 1073741824 := by exact_mod_cast h'
    omega
  · show Ideal.ofBits .f32 0xC3000000#32 + (((((BitVec.ofNat 32 k).toInt : ℤ) : ℝ) : EReal) + Ideal.ofBits .f32 0x3F000000#32) * Ideal.ofBits .f32 0x40233333#32 = _
    rw [lit_m128, lit_half, lit_bs, toInt_small (by omega), EReal.coe_add, EReal.coe_mul, EReal.coe_add]
    rfl

/-! ## The peaks -/

/-- The lightness peak: the kernel's lane 0 is the reference's peak, and not zero. -/
theorem peak_L (lab : Vec Ideal S32x3x512x512 .f32)
    (hr : ∀ w p q, ((0 : ℝ) : EReal) ≤ lab (ix4 w 0 p q) ∧ lab (ix4 w 0 p q) ≤ ((100 : ℝ) : EReal)) (w : Fin 32) :
    ∃ p : ℝ, p ≠ 0 ∧ KI.PK (F := Ideal) lab (ix2 w 0) = (p : EReal)
      ∧ middle (F := Ideal) 0x00000000#32 0x3F800000#32 (secondBin (counts (bins 0x00000000#32 0x3F800000#32 0x42C80000#32 (flat (shapeCast S32x512x512 (extractStridedSlice S32x1x512x512 ![0, 0, 0, 0] lab slices_S32x3x512x512_S32x1x512x512_0_0_0_0) shapeCasts_S32x1x512x512_S32x512x512))))) (ix1 w) = (p : EReal) := by
  obtain ⟨a, b, ha, hb, -, e⟩ := scan_pix 0x00000000#32 0x3F800000#32 lab w 0 0 fun k hk => KI.binc_L lab w hk
  obtain ⟨a', b', ha', hb', e'⟩ := secondBin_spec _ (fun w k => pix 0x00000000#32 0x3F800000#32 lab w 0 k)
    (counts_pix 0x00000000#32 0x3F800000#32 0x42C80000#32 0 1 100 lit_0 lit_1 lit_100 one_pos lab 0 _
      (fun w p q => chan_apply 0 (by norm_num) slices_S32x3x512x512_S32x1x512x512_0_0_0_0 lab w p q) hr) w
  obtain rfl := ha.unique ha'
  obtain rfl := hb.unique hb'
  obtain ⟨p, hp, hm⟩ := mid_L hb.1
  refine ⟨p, hp, ?_, ?_⟩
  · rw [← hm, ← e]; exact (lanes (KI.scan2 (F := Ideal) lab w 0).2.2.2 (KI.scan2 (F := Ideal) lab w 1).2.1 (KI.scan2 (F := Ideal) lab w 2).2.1).1
  · rw [middle_apply, e', hm]

/-- A colour peak: the kernel's lane `ch` is the reference's peak, and not zero. -/
theorem peak_C (lab : Vec Ideal S32x3x512x512 .f32) (ch : Fin 3) (w : Fin 32) (hs : S32x3x512x512.Slices ![0, ch.val, 0, 0] S32x1x512x512)
    (hr : ∀ w p q, ((-128 : ℝ) : EReal) ≤ lab (ix4 w ch p q) ∧ lab (ix4 w ch p q) ≤ ((127 : ℝ) : EReal))
    (hc : ∀ k < 100, KI.binc (F := Ideal) lab w ch.val k = pix 0xC3000000#32 0x40233333#32 lab w ch k)
    (hl : KI.PK (F := Ideal) lab (ix2 w ⟨ch.val, by have := ch.isLt; omega⟩) = mid 0xC3000000#32 0x40233333#32 (KI.scan2 (F := Ideal) lab w ch.val).2.1) :
    ∃ p : ℝ, p ≠ 0 ∧ KI.PK (F := Ideal) lab (ix2 w ⟨ch.val, by have := ch.isLt; omega⟩) = (p : EReal)
      ∧ middle (F := Ideal) 0xC3000000#32 0x40233333#32 (firstBin (counts (bins 0xC3000000#32 0x40233333#32 0x42FE0000#32 (flat (shapeCast S32x512x512 (extractStridedSlice S32x1x512x512 ![0, ch.val, 0, 0] lab hs) shapeCasts_S32x1x512x512_S32x512x512))))) (ix1 w) = (p : EReal) := by
  obtain ⟨a, b, ha, -, e, -⟩ := scan_pix 0xC3000000#32 0x40233333#32 lab w ch.val ch hc
  obtain ⟨a', ha', e'⟩ := firstBin_spec _ (fun w k => pix 0xC3000000#32 0x40233333#32 lab w ch k)
    (counts_pix 0xC3000000#32 0x40233333#32 0x42FE0000#32 (-128) (10695475 / 4194304) 127 lit_m128 lit_bs lit_127 (by norm_num) lab ch _
      (fun w p q => chan_apply ch.val ch.isLt hs lab w p q) hr) w
  obtain rfl := ha.unique ha'
  obtain ⟨p, hp, hm⟩ := mid_C ha.1
  exact ⟨p, hp, by rw [hl, e, hm], by rw [middle_apply, e', hm]⟩

/-- The two colour lanes, as `peak_C` takes them. -/
theorem lane_A (lab : Vec Ideal S32x3x512x512 .f32) (w : Fin 32) :
    KI.PK (F := Ideal) lab (ix2 w 1) = mid 0xC3000000#32 0x40233333#32 (KI.scan2 (F := Ideal) lab w 1).2.1 := (lanes (KI.scan2 (F := Ideal) lab w 0).2.2.2 (KI.scan2 (F := Ideal) lab w 1).2.1 (KI.scan2 (F := Ideal) lab w 2).2.1).2.1
theorem lane_B (lab : Vec Ideal S32x3x512x512 .f32) (w : Fin 32) :
    KI.PK (F := Ideal) lab (ix2 w 2) = mid 0xC3000000#32 0x40233333#32 (KI.scan2 (F := Ideal) lab w 2).2.1 := (lanes (KI.scan2 (F := Ideal) lab w 0).2.2.2 (KI.scan2 (F := Ideal) lab w 1).2.1 (KI.scan2 (F := Ideal) lab w 2).2.1).2.2

end Cert.Proof.Peaks

end
-- ==== Proof.Algebra.lean ====
/-
  The kernel's result and the reference's are one array: x (r / (p q)) + a / q is (x r / p + a) / q wherever the peak `p` is
  a real number other than zero and `q` is above zero, whatever `x` and `r` are (`rescale_eq`, `out_eq_ref`).
-/
module

public import proofs.«01_k».proof.Proof.IdealMain
public import proofs.«01_k».proof.Proof.RefMain
public import proofs.«01_k».proof.Proof.Range
public import proofs.«01_k».proof.Proof.Peaks
public import Idealize.ShloMosaic.Lib.Pipeline.Value

@[expose] public section

noncomputable section

namespace Cert.Proof.Algebra

open Cert.Proof.Ref
open Idealize.ShloMosaic hiding ix1 ix2 ix3 ix4 eq_ix4
open Idealize.ShloMosaic.TcCoe Idealize.ShloMosaic.ValueIdx

/-! ## Over the extended reals -/

/-- Dividing by a positive real goes through the sum, and the divisions by two reals other than zero are one. -/
theorem rescale_eq (x r : EReal) {p q a : ℝ} (hp : p ≠ 0) (hq : 0 < q) :
    x * Ideal.div r ((p : EReal) * (q : EReal)) + Ideal.div (a : EReal) (q : EReal)
      = Ideal.div (Ideal.div (x * r) (p : EReal) + (a : EReal)) (q : EReal) := by
  rw [← EReal.coe_mul, Ideal.div_coe (mul_ne_zero hp hq.ne'), Ideal.div_coe hq.ne', Ideal.div_coe hp, Ideal.div_coe hq.ne',
    EReal.right_distrib_of_nonneg_of_ne_top (by exact_mod_cast (one_div_pos.mpr hq).le) (EReal.coe_ne_top _)]
  congr 1
  rw [mul_assoc, mul_assoc, ← EReal.coe_mul, one_div_mul_one_div]

/-! ## The reference, read at one pixel -/

section Reference

open Cert.ReferenceIdeal Cert.ReferenceIdeal.Gen

/-- One value per image, at every pixel of the image. -/
theorem image_apply (p : (⟨S32, .f32⟩ : BufTy).Contents (Elt Ideal)) (w : Fin 32) (i j : Fin 512) :
    broadcastInDim S32x1x512x512 ![0, 1, 2, 3] bcast_S32x1x1x1_S32x1x512x512_0_1_2_3
      (shapeCast S32x1x1x1 p shapeCasts_S32_S32x1x1x1) (ix4 w 0 i j) = p (ix1 w) := by
  have e : ∀ y : (⟨S32x1x1x1, .f32⟩ : BufTy).Contents (Elt Ideal),
      broadcastInDim S32x1x512x512 ![0, 1, 2, 3] bcast_S32x1x1x1_S32x1x512x512_0_1_2_3 y (ix4 w 0 i j) = y (ix4 w 0 0 0) :=
    fun y => congrArg y (by funext c; fin_cases c <;> rfl)
  rw [e]
  refine congrArg p (Shape.reshapeEquiv_eq_of_rowMajor _ ?_)
  rw [Shape.rowMajor_val_four, Shape.rowMajor_val_one]
  show w.val = ((w.val * 1 + 0) * 1 + 0) * 1 + 0
  omega

/-- One value in all, at every pixel. -/
theorem one_apply (r : (⟨S1, .f32⟩ : BufTy).Contents (Elt Ideal)) (w : Fin 32) (i j : Fin 512) :
    broadcastInDim S32x1x512x512 ![0, 1, 2, 3] bcast_S1x1x1x1_S32x1x512x512_0_1_2_3
      (broadcastInDim S1x1x1x1 ![3] bcast_S1_S1x1x1x1_3 r) (ix4 w 0 i j) = r (ix1 0) :=
  congrArg r (by funext c; fin_cases c; rfl)

/-- A channel with its axis of size one. -/
theorem chan4_apply (x : (⟨S32x512x512, .f32⟩ : BufTy).Contents (Elt Ideal)) (w : Fin 32) (i j : Fin 512) :
    broadcastInDim S32x1x512x512 ![0, 2, 3] bcast_S32x512x512_S32x1x512x512_0_2_3 x (ix4 w 0 i j) = x (ix3 w i j) :=
  congrArg x (by funext c; fin_cases c <;> rfl)

/-- A rescaled channel at one pixel. -/
theorem rescale_apply (a q : BitVec 32) (x : (⟨S32x512x512, .f32⟩ : BufTy).Contents (Elt Ideal)) (r : (⟨S1, .f32⟩ : BufTy).Contents (Elt Ideal))
    (p : (⟨S32, .f32⟩ : BufTy).Contents (Elt Ideal)) (w : Fin 32) (i j : Fin 512) :
    rescale (F := Ideal) a q x r p (ix4 w 0 i j)
      = Ideal.div (Ideal.div (x (ix3 w i j) * r (ix1 0)) (p (ix1 w)) + Ideal.ofBits .f32 a) (Ideal.ofBits .f32 q) := by
  have e : ∀ b c e' : FVec Ideal S32x1x512x512 .f32, Host.divf (addf (Host.divf (mulf b c) e') (everyPx (F := Ideal) a)) (everyPx (F := Ideal) q) (ix4 w 0 i j)
      = Ideal.div (Ideal.div (b (ix4 w 0 i j) * c (ix4 w 0 i j)) (e' (ix4 w 0 i j)) + Ideal.ofBits .f32 a) (Ideal.ofBits .f32 q) := fun _ _ _ => rfl
  unfold rescale
  rw [e, image_apply, one_apply, chan4_apply]

/-- The three channels side by side, read. -/
theorem glue_apply (f : Fin 3 → (⟨S32x1x512x512, .f32⟩ : BufTy).Contents (Elt Ideal)) (w : Fin 32) (k : Fin 3) (i j : Fin 512) :
    glue (F := Ideal) (f 0) (f 1) (f 2) (ix4 w k i j) = f k (ix4 w 0 i j) :=
  concatenate_ofFn_unit_apply (t := S32x3x512x512) (s₁ := S32x1x512x512) 1 f
    concatenates_S32x1x512x512_S32x1x512x512_S32x1x512x512_S32x3x512x512_d1 rfl rfl (ix4 w k i j) k rfl (ix4 w 0 i j)
    (by intro b hb; fin_cases b <;> first | rfl | exact absurd rfl hb)

end Reference

/-! ## The kernel's factors and offsets, read -/

section Kernel

open Cert.KernelIdeal Cert.KernelIdeal.Gen

variable (m : (ℓ : Loc nD τ sig) → Buf (Elt Ideal) ℓ) (d : Dev nD)

/-- The three references side by side, read. -/
theorem refs_apply (f : Fin 3 → FVec Ideal S1 .f32) (k : Fin 3) :
    (concatenate S3 0 [⟨S1, f 0⟩, ⟨S1, f 1⟩, ⟨S1, f 2⟩] concatenates_S1_S1_S1_S3_d0 : FVec Ideal S3 .f32) (ix1 k)
      = f k (ix1 0) :=
  concatenate_ofFn_unit_apply (t := S3) (s₁ := S1) 0 f concatenates_S1_S1_S1_S3_d0 rfl rfl (ix1 k) k rfl (ix1 0)
    (by intro b hb; fin_cases b; exact absurd rfl hb)

/-- The constants the factors and the offsets take. -/
theorem cst_eq : (KI.V2 m d main_cst : FVec Ideal S3 .f32) = fun i => Ideal.ofBits .f32 (lit0 (S3.rowMajor i)) := by
  rw [KI.V2_arg m d (r := main_cst) (by decide)]
  after_reads_simp
  rfl
theorem cst0_eq : (KI.V2 m d main_cst_0 : FVec Ideal S3 .f32) = fun i => Ideal.ofBits .f32 (lit1 (S3.rowMajor i)) := by
  rw [KI.V2_arg m d (r := main_cst_0) (by decide)]
  after_reads_simp
  rfl

/-- The place of channel `k` among the three. -/
theorem row3 (k : Fin 3) : S3.rowMajor (ix1 k) = k := Fin.ext (Shape.rowMajor_val_one _)

/-- The divisor and the summand of channel `k`. -/
theorem cst_apply (k : Fin 3) : (KI.V2 m d main_cst : FVec Ideal S3 .f32) (ix1 k) = Ideal.ofBits .f32 (lit0 k) :=
  (congrFun (cst_eq m d) (ix1 k)).trans (congrArg (fun x : Fin 3 => Ideal.ofBits .f32 (lit0 x)) (row3 k))
theorem cst0_apply (k : Fin 3) : (KI.V2 m d main_cst_0 : FVec Ideal S3 .f32) (ix1 k) = Ideal.ofBits .f32 (lit1 k) :=
  (congrFun (cst0_eq m d) (ix1 k)).trans (congrArg (fun x : Fin 3 => Ideal.ofBits .f32 (lit1 x)) (row3 k))

/-- One value per channel, repeated for every image. -/
def rep (x : FVec Ideal S3 .f32) : FVec Ideal S32x3 .f32 :=
  broadcastInDim S32x3 ![0, 1] bcast_S1x3_S32x3_0_1 (broadcastInDim S1x3 ![1] bcast_S3_S1x3_1 x)

/-- It holds channel `k`'s value at every image. -/
theorem rep_apply (x : FVec Ideal S3 .f32) (w : Fin 32) (k : Fin 3) : rep x (ix2 w k) = x (ix1 k) :=
  congrArg x (by funext c; fin_cases c; rfl)

/-- The factors, as the operations after the SparseCore call compute them from the peaks, the references and the divisors. -/
def factors (pk : FVec Ideal S32x16 .f32) (f : Fin 3 → FVec Ideal S1 .f32) (c : FVec Ideal S3 .f32) : FVec Ideal S32x3 .f32 :=
  Host.divf (rep (concatenate S3 0 [⟨S1, f 0⟩, ⟨S1, f 1⟩, ⟨S1, f 2⟩] concatenates_S1_S1_S1_S3_d0))
    (mulf (extractStridedSlice S32x3 ![0, 0] pk slices_S32x16_S32x3_0_0) (rep c))

/-- The factor of image `w`, channel `k`: the channel's reference over the peak times the divisor. -/
theorem factors_apply (pk : FVec Ideal S32x16 .f32) (f : Fin 3 → FVec Ideal S1 .f32) (c : FVec Ideal S3 .f32) (w : Fin 32) (k : Fin 3) :
    factors pk f c (ix2 w k) = Ideal.div (f k (ix1 0)) (pk (ix2 w ⟨k.val, by have := k.isLt; omega⟩) * c (ix1 k)) := by
  have hs : extractStridedSlice S32x3 ![0, 0] pk slices_S32x16_S32x3_0_0 (ix2 w k) = pk (ix2 w ⟨k.val, by have := k.isLt; omega⟩) :=
    congrArg pk (by funext c; fin_cases c <;> exact Fin.ext (Nat.zero_add _))
  have e : ∀ a b c : FVec Ideal S32x3 .f32, Host.divf a (mulf b c) (ix2 w k) = Ideal.div (a (ix2 w k)) (b (ix2 w k) * c (ix2 w k)) :=
    fun _ _ _ => rfl
  unfold factors
  rw [e, rep_apply, rep_apply, hs, refs_apply]

/-- The factors' buffer after those operations. -/
theorem v8_eq : KI.V3 m d main_v8
    = factors (KI.V2 m d main_v0) ![KI.V2 m d main_arg1, KI.V2 m d main_arg2, KI.V2 m d main_arg3] (KI.V2 m d main_cst) := by
  after_reads_simp
  rfl

/-- The offsets' buffer: the summands over the divisors, for every image. -/
theorem v11_eq : KI.V3 m d main_v11 = rep (Host.divf (F := Ideal) (φ := .f32) (s := S3) (KI.V2 m d main_cst_0) (KI.V2 m d main_cst)) := by
  after_reads_simp
  rfl

/-- The factor of image `w`, channel `k`. -/
theorem factor_apply (f : Fin 3 → FVec Ideal S1 .f32) (h0 : f 0 = m (KI.aLoc d main_arg1))
    (h1 : f 1 = m (KI.aLoc d main_arg2)) (h2 : f 2 = m (KI.aLoc d main_arg3)) (w : Fin 32) (k : Fin 3) :
    (KI.V3 m d main_v8 : FVec Ideal S32x3 .f32) (ix2 w k)
      = Ideal.div (f k (ix1 0)) (KI.PK (F := Ideal) (m (KI.aLoc d main_arg0)) (ix2 w ⟨k.val, by have := k.isLt; omega⟩) * Ideal.ofBits .f32 (lit0 k)) := by
  have e1 : KI.V2 m d main_arg1 = f 0 :=
    ((KI.V2_arg m d (r := main_arg1) (by decide)).trans (KI.V1_arg m (r := main_arg1) d (by decide))).trans h0.symm
  have e2 : KI.V2 m d main_arg2 = f 1 :=
    ((KI.V2_arg m d (r := main_arg2) (by decide)).trans (KI.V1_arg m (r := main_arg2) d (by decide))).trans h1.symm
  have e3 : KI.V2 m d main_arg3 = f 2 :=
    ((KI.V2_arg m d (r := main_arg3) (by decide)).trans (KI.V1_arg m (r := main_arg3) d (by decide))).trans h2.symm
  have ef : (![KI.V2 m d main_arg1, KI.V2 m d main_arg2, KI.V2 m d main_arg3] : Fin 3 → FVec Ideal S1 .f32) = f := by
    rw [e1, e2, e3]; funext k; fin_cases k <;> rfl
  rw [v8_eq, factors_apply, ef, cst_apply, KI.V2_v0]

/-- The offset of channel `k`. -/
theorem offset_apply (w : Fin 32) (k : Fin 3) :
    (KI.V3 m d main_v11 : FVec Ideal S32x3 .f32) (ix2 w k) = Ideal.div (Ideal.ofBits .f32 (lit1 k)) (Ideal.ofBits .f32 (lit0 k)) := by
  have e : ∀ a b : FVec Ideal S3 .f32, Host.divf a b (ix1 k) = Ideal.div (a (ix1 k)) (b (ix1 k)) := fun _ _ => rfl
  rw [v11_eq, rep_apply, e, cst_apply, cst0_apply]

end Kernel

/-! ## The two results -/

section Both

open Cert.KernelIdeal Cert.KernelIdeal.Gen

variable (m : (ℓ : Loc nD τ sig) → Buf (Elt Ideal) ℓ) (d : Dev nD)

/-- The kernel's result at one pixel. -/
theorem outVal_apply (x : FVec Ideal S32x3x512x512 .f32) (hx : x = m (KI.aLoc d main_arg0)) (f : Fin 3 → FVec Ideal S1 .f32) (h0 : f 0 = m (KI.aLoc d main_arg1))
    (h1 : f 1 = m (KI.aLoc d main_arg2)) (h2 : f 2 = m (KI.aLoc d main_arg3)) (w : Fin 32) (k : Fin 3) (i j : Fin 512) :
    KI.outVal (F := Ideal) m d (ix4 w k i j)
      = x (ix4 w k i j)
          * Ideal.div (f k (ix1 0)) (KI.PK (F := Ideal) (m (KI.aLoc d main_arg0)) (ix2 w ⟨k.val, by have := k.isLt; omega⟩) * Ideal.ofBits .f32 (lit0 k))
        + Ideal.div (Ideal.ofBits .f32 (lit1 k)) (Ideal.ofBits .f32 (lit0 k)) := by
  rw [hx, ← factor_apply m d f h0 h1 h2 w k, ← offset_apply m d w k]
  rfl

/-- Under the precondition the kernel's result is the reference's of the same arguments. -/
theorem out_eq_ref (h : Cert.Pre_in_range.fn (F := Ideal) (m (KI.aLoc d main_arg0)) (m (KI.aLoc d main_arg1)) (m (KI.aLoc d main_arg2))
      (m (KI.aLoc d main_arg3)) = fun _ => 1#1) :
    KI.outVal (F := Ideal) m d
      = refOut (F := Ideal) (m (KI.aLoc d main_arg0)) (m (KI.aLoc d main_arg1)) (m (KI.aLoc d main_arg2)) (m (KI.aLoc d main_arg3)) := by
  funext y
  obtain ⟨w, k, i, j, rfl⟩ : ∃ w k i j, y = ix4 w k i j := ⟨_, _, _, _, eq_ix4 y⟩
  rw [outVal_apply m d (m (KI.aLoc d main_arg0)) rfl ![m (KI.aLoc d main_arg1), m (KI.aLoc d main_arg2), m (KI.aLoc d main_arg3)] rfl rfl rfl]
  unfold refOut
  have hg := glue_apply ![rescale 0x42C80000#32 0x43480000#32 (chanL (m (KI.aLoc d main_arg0))) (m (KI.aLoc d main_arg1)) (peakL (m (KI.aLoc d main_arg0))),
    rescale 0x43000000#32 0x437F0000#32 (chanA (m (KI.aLoc d main_arg0))) (m (KI.aLoc d main_arg2)) (peakC (chanA (m (KI.aLoc d main_arg0)))),
    rescale 0x43000000#32 0x437F0000#32 (chanB (m (KI.aLoc d main_arg0))) (m (KI.aLoc d main_arg3)) (peakC (chanB (m (KI.aLoc d main_arg0))))] w k i j
  refine Eq.trans ?_ hg.symm
  have hl := fun w a b => Range.light h w a b
  have hc := fun w k hk a b => Range.colour h w k hk a b
  match k with
  | 0 =>
    obtain ⟨p, hp, e1, e2⟩ := Peaks.peak_L (m (KI.aLoc d main_arg0)) hl w
    have e := rescale_apply 0x42C80000#32 0x43480000#32 (chanL (m (KI.aLoc d main_arg0))) (m (KI.aLoc d main_arg1)) (peakL (m (KI.aLoc d main_arg0))) w i j
    refine Eq.trans ?_ e.symm
    rw [show peakL (F := Ideal) (m (KI.aLoc d main_arg0)) (ix1 w) = (p : EReal) from e2,
      show chanL (F := Ideal) (m (KI.aLoc d main_arg0)) (ix3 w i j) = m (KI.aLoc d main_arg0) (ix4 w 0 i j) from Ref.chan_apply 0 (by norm_num) _ _ w i j,
      lit_100, lit_200]
    refine Eq.trans ?_ (rescale_eq _ _ hp (by norm_num))
    rw [← e1, ← lit_100, ← lit_200]
    rfl
  | 1 =>
    obtain ⟨p, hp, e1, e2⟩ := Peaks.peak_C (m (KI.aLoc d main_arg0)) 1 w Cert.ReferenceIdeal.Gen.facts.slices_S32x3x512x512_S32x1x512x512_0_1_0_0
      (fun w a b => hc w 1 (by decide) a b) (fun k hk => KI.binc_A _ _ hk) (Peaks.lane_A _ w)
    have e := rescale_apply 0x43000000#32 0x437F0000#32 (chanA (m (KI.aLoc d main_arg0))) (m (KI.aLoc d main_arg2)) (peakC (chanA (m (KI.aLoc d main_arg0)))) w i j
    refine Eq.trans ?_ e.symm
    rw [show peakC (F := Ideal) (chanA (m (KI.aLoc d main_arg0))) (ix1 w) = (p : EReal) from e2,
      show chanA (F := Ideal) (m (KI.aLoc d main_arg0)) (ix3 w i j) = m (KI.aLoc d main_arg0) (ix4 w 1 i j) from Ref.chan_apply 1 (by norm_num) _ _ w i j,
      lit_128, lit_255]
    refine Eq.trans ?_ (rescale_eq _ _ hp (by norm_num))
    rw [← e1, ← lit_128, ← lit_255]
    rfl
  | 2 =>
    obtain ⟨p, hp, e1, e2⟩ := Peaks.peak_C (m (KI.aLoc d main_arg0)) 2 w Cert.ReferenceIdeal.Gen.facts.slices_S32x3x512x512_S32x1x512x512_0_2_0_0
      (fun w a b => hc w 2 (by decide) a b) (fun k _ => KI.binc_B _ _ k) (Peaks.lane_B _ w)
    have e := rescale_apply 0x43000000#32 0x437F0000#32 (chanB (m (KI.aLoc d main_arg0))) (m (KI.aLoc d main_arg3)) (peakC (chanB (m (KI.aLoc d main_arg0)))) w i j
    refine Eq.trans ?_ e.symm
    rw [show peakC (F := Ideal) (chanB (m (KI.aLoc d main_arg0))) (ix1 w) = (p : EReal) from e2,
      show chanB (F := Ideal) (m (KI.aLoc d main_arg0)) (ix3 w i j) = m (KI.aLoc d main_arg0) (ix4 w 2 i j) from Ref.chan_apply 2 (by norm_num) _ _ w i j,
      lit_128, lit_255]
    refine Eq.trans ?_ (rescale_eq _ _ hp (by norm_num))
    rw [← e1, ← lit_128, ← lit_255]
    rfl

end Both

end Cert.Proof.Algebra

end
-- ==== Proof.lean ====
/-
  The certificate's claims, from the three programs' runs: the kernel's at either float instance (`KB.run_main`, `KI.run_main`), the
  reference's (`Ref.run_main`), and the equality of their results over the reals (`Algebra.out_eq_ref`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsMain
public import proofs.«01_k».proof.Proof.IdealMain
public import proofs.«01_k».proof.Proof.RefMain
public import proofs.«01_k».proof.Proof.Range
public import proofs.«01_k».proof.Proof.Algebra
public import Idealize.ShloMosaic.Lib.Quiescent

@[expose] public section

noncomputable section

namespace Cert.Proof

open Idealize.ShloMosaic Idealize.SL.Sem

/-- The kernel at the machine's floats ends with its arguments unchanged and every semaphore at zero. -/
theorem frame_kernel : Cert.quiescent_Kernel := fun m ρ _ =>
  (θ_run (Cert.Kernel.defs (F := Bits)) _ _).mono (fun _ h => ⟨fun c => (h.1 c).1, h.2⟩) (Cert.Proof.KB.run_main (F := Bits) m ρ)

/-- The kernel over the reals does. -/
theorem frame_ideal : Cert.quiescent_KernelIdeal := fun m ρ _ =>
  (θ_run (Cert.KernelIdeal.defs (F := Ideal)) _ _).mono (fun _ h => ⟨fun c => (h.1 c).1, h.2⟩) (Cert.Proof.KI.run_main (F := Ideal) m ρ)

/-- The reference over the reals does: it declares no semaphore. -/
theorem frame_reference : Cert.quiescent_ReferenceIdeal := fun m ρ _ =>
  (θ_run (Cert.ReferenceIdeal.defs (F := Ideal)) _ _).mono
    (fun r h => ⟨fun c => (h c).1, sem_eq_zero_of_no_sems (by decide) r.2⟩) (Cert.Proof.Ref.run_main (F := Ideal) m ρ)

/-- The same two, where the precondition holds. -/
theorem frame_ideal_in_range : Cert.quiescent_KernelIdeal_pre_in_range := fun m ρ _ => frame_ideal m ρ trivial
theorem frame_reference_in_range : Cert.quiescent_ReferenceIdeal_pre_in_range := fun m ρ _ => frame_reference m ρ trivial

/-- From memories that agree on the arguments, with every pixel in range, the kernel and the reference end with equal results. -/
theorem results_equal : Cert.algebraic_KernelIdeal_ReferenceIdeal_pre_in_range := by
  intro m g m' g' hpre hargs
  refine ⟨fun c => Cert.Proof.KI.outVal (F := Ideal) m c, ?_, ?_⟩
  · exact (θ_run (Cert.KernelIdeal.defs (F := Ideal)) _ _).mono (fun _ h c => ⟨(h.1 c).2, (h.1 c).1⟩) (Cert.Proof.KI.run_main (F := Ideal) m g)
  · refine (θ_run (Cert.ReferenceIdeal.defs (F := Ideal)) _ _).mono (fun r h c => ⟨?_, (h c).1⟩) (Cert.Proof.Ref.run_main (F := Ideal) m' g')
    obtain ⟨h0, h1, h2, h3⟩ := hargs c
    refine (h c).2.trans ?_
    rw [h0, h1, h2, h3]
    exact (Algebra.out_eq_ref m c (hpre c)).symm

/-- The claims together, with the facts the programs and the precondition state. -/
theorem claim : Cert.Claim :=
  ⟨Cert.Kernel.Gen.facts, Cert.KernelIdeal.Gen.facts, Cert.ReferenceIdeal.Gen.facts, rangeFacts, frame_kernel, frame_ideal,
    frame_ideal_in_range, frame_reference, frame_reference_in_range, trivial, results_equal⟩

end Cert.Proof

end
